-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale2" .f32 0x3E0293EE#32 (((11863283 / 134217728) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x7168 : Shape := ⟨3, ![4, 8192, 7168]⟩
abbrev S4x8192x1024 : Shape := ⟨3, ![4, 8192, 1024]⟩
abbrev S56 : Shape := ⟨1, ![56]⟩
abbrev S8 : Shape := ⟨1, ![8]⟩
abbrev S1x256x896 : Shape := ⟨3, ![1, 256, 896]⟩
abbrev S1x8192x128 : Shape := ⟨3, ![1, 8192, 128]⟩
abbrev S128x8192 : Shape := ⟨2, ![128, 8192]⟩
abbrev S7x1x256 : Shape := ⟨3, ![7, 1, 256]⟩
abbrev S7x128x256 : Shape := ⟨3, ![7, 128, 256]⟩
abbrev S1x256x128 : Shape := ⟨3, ![1, 256, 128]⟩
abbrev S256x128 : Shape := ⟨2, ![256, 128]⟩
abbrev S128x256 : Shape := ⟨2, ![128, 256]⟩
abbrev S1 : Shape := ⟨1, ![1]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x128x256 : Shape := ⟨3, ![1, 128, 256]⟩

abbrev nBuf : Space → Nat
  | .hbm => 7
  | .vmem => 12
  | .smem => 3
  | _ => 0

abbrev bufTy : (tb : Table) → Fin (tcTables nBuf tb) → BufTy
  | .hbm, ⟨0, _⟩ => ⟨S4x8192x7168, .fp8e4m3⟩
  | .hbm, ⟨1, _⟩ => ⟨S4x8192x1024, .fp8e4m3⟩
  | .hbm, ⟨2, _⟩ => ⟨S4x8192x1024, .fp8e4m3⟩
  | .hbm, ⟨3, _⟩ => ⟨S56, .f32⟩
  | .hbm, ⟨4, _⟩ => ⟨S8, .f32⟩
  | .hbm, ⟨5, _⟩ => ⟨S8, .f32⟩
  | .hbm, ⟨6, _⟩ => ⟨S4x8192x7168, .bf16⟩
  | .local _ .vmem, ⟨0, _⟩ => ⟨S1x256x896, .fp8e4m3⟩
  | .local _ .vmem, ⟨1, _⟩ => ⟨S1x256x896, .fp8e4m3⟩
  | .local _ .vmem, ⟨2, _⟩ => ⟨S1x8192x128, .fp8e4m3⟩
  | .local _ .vmem, ⟨3, _⟩ => ⟨S1x8192x128, .fp8e4m3⟩
  | .local _ .vmem, ⟨4, _⟩ => ⟨S1x8192x128, .fp8e4m3⟩
  | .local _ .vmem, ⟨5, _⟩ => ⟨S1x8192x128, .fp8e4m3⟩
  | .local _ .vmem, ⟨6, _⟩ => ⟨S1x256x896, .bf16⟩
  | .local _ .vmem, ⟨7, _⟩ => ⟨S1x256x896, .bf16⟩
  | .local _ .vmem, ⟨8, _⟩ => ⟨S128x8192, .bf16⟩
  | .local _ .vmem, ⟨9, _⟩ => ⟨S7x1x256, .f32⟩
  | .local _ .vmem, ⟨10, _⟩ => ⟨S7x1x256, .f32⟩
  | .local _ .vmem, ⟨11, _⟩ => ⟨S7x128x256, .f32⟩
  | .local _ .smem, ⟨0, _⟩ => ⟨S56, .f32⟩
  | .local _ .smem, ⟨1, _⟩ => ⟨S8, .f32⟩
  | .local _ .smem, ⟨2, _⟩ => ⟨S8, .f32⟩
  | _, _ => ⟨S4x8192x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 8, 32], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_266 : BitVec 32 := 0#32
  let c32_i32 : BitVec 32 := 32#32
  let v484 : BitVec 32 := Scalar.addi c0_i32_266 c32_i32
  let c1_i32_267 : BitVec 32 := 1#32
  ⟨c0_i32_266, v484, c1_i32_267⟩
def k0_mult1 (k0_t1 : Fin k0_t1_loop.trips) : BitVec 32 :=
  let c0_i32_266 : BitVec 32 := 0#32
  let c1_i32_267 : BitVec 32 := 1#32
  let arg14 : BitVec 32 := Scf.iv c0_i32_266 c1_i32_267 k0_t1
  let c256_i32_269 : BitVec 32 := 256#32
  let v485 : BitVec 32 := Scalar.muli arg14 c256_i32_269
  v485
def k0_off1 (k0_t1 : Fin k0_t1_loop.trips) : Fin 3 → Nat :=
  let c0_270 : Index := 0#32
  let c0_i32_266 : BitVec 32 := 0#32
  let c1_i32_267 : BitVec 32 := 1#32
  let arg14 : BitVec 32 := Scf.iv c0_i32_266 c1_i32_267 k0_t1
  let c256_i32_269 : BitVec 32 := 256#32
  let v485 : BitVec 32 := Scalar.muli arg14 c256_i32_269
  let v486 : BitVec 32 := v485
  let v487 : Index := Scalar.indexCast v486
  let c0_271 : Index := 0#32
  ![0, v487.toNat, 0]
def k0_off2 (k0_t1 : Fin k0_t1_loop.trips) : Fin 2 → Nat :=
  let c0_272 : Index := 0#32
  let c0_i32_266 : BitVec 32 := 0#32
  let c1_i32_267 : BitVec 32 := 1#32
  let arg14 : BitVec 32 := Scf.iv c0_i32_266 c1_i32_267 k0_t1
  let c256_i32_269 : BitVec 32 := 256#32
  let v485 : BitVec 32 := Scalar.muli arg14 c256_i32_269
  let v486 : BitVec 32 := v485
  let v492 : Index := Scalar.indexCast v486
  ![0, v492.toNat]
def k0_off3 (i : grid0.Coords) (c0_i32_11 : BitVec 32) : Fin 1 → Nat :=
  let arg1 : BitVec 32 := BitVec.ofNat 32 (i 1).val
  let c7_i32 : BitVec 32 := 7#32
  let v15 : BitVec 32 := Scalar.muli arg1 c7_i32
  let v16 : BitVec 32 := Scalar.addi v15 c0_i32_11
  let v17 : Index := Scalar.indexCast v16
  ![v17.toNat]
def k0_off4 (i : grid0.Coords) : Fin 1 → Nat :=
  let arg1 : BitVec 32 := BitVec.ofNat 32 (i 1).val
  let v19 : Index := Scalar.indexCast arg1
  ![v19.toNat]
@[reducible] def k0_t2_loop (i : grid0.Coords) : Scf.Loop 32 :=
  let c0_i32_25 : BitVec 32 := 0#32
  let arg2 : BitVec 32 := BitVec.ofNat 32 (i 2).val
  let v71 : BitVec 32 := Scalar.subi arg2 c0_i32_25
  let c1_i32_27 : BitVec 32 := 1#32
  let v73 : BitVec 32 := Scalar.divsi v71 c1_i32_27
  let v74 : BitVec 32 := Scalar.muli v73 c1_i32_27
  let v75 : BitVec 32 := Scalar.addi c0_i32_25 v74
  let c1_i32_28 : BitVec 32 := 1#32
  ⟨c0_i32_25, v75, c1_i32_28⟩
def k0_mult2 (i : grid0.Coords) (k0_t2 : Fin (k0_t2_loop i).trips) : BitVec 32 :=
  let c0_i32_25 : BitVec 32 := 0#32
  let c1_i32_28 : BitVec 32 := 1#32
  let arg14 : BitVec 32 := Scf.iv c0_i32_25 c1_i32_28 k0_t2
  let c256_i32_266 : BitVec 32 := 256#32
  let v484 : BitVec 32 := Scalar.muli arg14 c256_i32_266
  v484
def k0_off5 (i : grid0.Coords) (k0_t2 : Fin (k0_t2_loop i).trips) : Fin 3 → Nat :=
  let c0_267 : Index := 0#32
  let c0_i32_25 : BitVec 32 := 0#32
  let c1_i32_28 : BitVec 32 := 1#32
  let arg14 : BitVec 32 := Scf.iv c0_i32_25 c1_i32_28 k0_t2
  let c256_i32_266 : BitVec 32 := 256#32
  let v484 : BitVec 32 := Scalar.muli arg14 c256_i32_266
  let v485 : BitVec 32 := v484
  let v486 : Index := Scalar.indexCast v485
  let c0_268 : Index := 0#32
  ![0, v486.toNat, 0]
def k0_off6 (i : grid0.Coords) (k0_t2 : Fin (k0_t2_loop i).trips) : Fin 2 → Nat :=
  let c0_269 : Index := 0#32
  let c0_i32_25 : BitVec 32 := 0#32
  let c1_i32_28 : BitVec 32 := 1#32
  let arg14 : BitVec 32 := Scf.iv c0_i32_25 c1_i32_28 k0_t2
  let c256_i32_266 : BitVec 32 := 256#32
  let v484 : BitVec 32 := Scalar.muli arg14 c256_i32_266
  let v485 : BitVec 32 := v484
  let v489 : Index := Scalar.indexCast v485
  ![0, v489.toNat]
@[reducible] def k0_t3_loop (i : grid0.Coords) : Scf.Loop 32 :=
  let c0_i32_25 : BitVec 32 := 0#32
  let arg2 : BitVec 32 := BitVec.ofNat 32 (i 2).val
  let v71 : BitVec 32 := Scalar.subi arg2 c0_i32_25
  let c1_i32_27 : BitVec 32 := 1#32
  let v73 : BitVec 32 := Scalar.divsi v71 c1_i32_27
  let v74 : BitVec 32 := Scalar.muli v73 c1_i32_27
  let v75 : BitVec 32 := Scalar.addi c0_i32_25 v74
  let v72 : BitVec 32 := Scalar.addi c0_i32_25 v71
  let c1_i32_29 : BitVec 32 := 1#32
  ⟨v75, v72, c1_i32_29⟩
def k0_mult3 (i : grid0.Coords) (k0_t3 : Fin (k0_t3_loop i).trips) : BitVec 32 :=
  let c0_i32_25 : BitVec 32 := 0#32
  let arg2 : BitVec 32 := BitVec.ofNat 32 (i 2).val
  let v71 : BitVec 32 := Scalar.subi arg2 c0_i32_25
  let c1_i32_27 : BitVec 32 := 1#32
  let v73 : BitVec 32 := Scalar.divsi v71 c1_i32_27
  let v74 : BitVec 32 := Scalar.muli v73 c1_i32_27
  let v75 : BitVec 32 := Scalar.addi c0_i32_25 v74
  let c1_i32_29 : BitVec 32 := 1#32
  let arg14 : BitVec 32 := Scf.iv v75 c1_i32_29 k0_t3
  let c256_i32_266 : BitVec 32 := 256#32
  let v484 : BitVec 32 := Scalar.muli arg14 c256_i32_266
  v484
def k0_off7 (i : grid0.Coords) (k0_t3 : Fin (k0_t3_loop i).trips) : Fin 3 → Nat :=
  let c0_267 : Index := 0#32
  let c0_i32_25 : BitVec 32 := 0#32
  let arg2 : BitVec 32 := BitVec.ofNat 32 (i 2).val
  let v71 : BitVec 32 := Scalar.subi arg2 c0_i32_25
  let c1_i32_27 : BitVec 32 := 1#32
  let v73 : BitVec 32 := Scalar.divsi v71 c1_i32_27
  let v74 : BitVec 32 := Scalar.muli v73 c1_i32_27
  let v75 : BitVec 32 := Scalar.addi c0_i32_25 v74
  let c1_i32_29 : BitVec 32 := 1#32
  let arg14 : BitVec 32 := Scf.iv v75 c1_i32_29 k0_t3
  let c256_i32_266 : BitVec 32 := 256#32
  let v484 : BitVec 32 := Scalar.muli arg14 c256_i32_266
  let v485 : BitVec 32 := v484
  let v486 : Index := Scalar.indexCast v485
  let c0_268 : Index := 0#32
  ![0, v486.toNat, 0]
def k0_off8 (i : grid0.Coords) (k0_t3 : Fin (k0_t3_loop i).trips) : Fin 2 → Nat :=
  let c0_269 : Index := 0#32
  let c0_i32_25 : BitVec 32 := 0#32
  let arg2 : BitVec 32 := BitVec.ofNat 32 (i 2).val
  let v71 : BitVec 32 := Scalar.subi arg2 c0_i32_25
  let c1_i32_27 : BitVec 32 := 1#32
  let v73 : BitVec 32 := Scalar.divsi v71 c1_i32_27
  let v74 : BitVec 32 := Scalar.muli v73 c1_i32_27
  let v75 : BitVec 32 := Scalar.addi c0_i32_25 v74
  let c1_i32_29 : BitVec 32 := 1#32
  let arg14 : BitVec 32 := Scf.iv v75 c1_i32_29 k0_t3
  let c256_i32_266 : BitVec 32 := 256#32
  let v484 : BitVec 32 := Scalar.muli arg14 c256_i32_266
  let v485 : BitVec 32 := v484
  let v489 : Index := Scalar.indexCast v485
  ![0, v489.toNat]
def k0_mult4 (i : grid0.Coords) : BitVec 32 :=
  let arg2 : BitVec 32 := BitVec.ofNat 32 (i 2).val
  let c256_i32 : BitVec 32 := 256#32
  let v78 : BitVec 32 := Scalar.muli arg2 c256_i32
  v78
def k0_off9 (i : grid0.Coords) : Fin 3 → Nat :=
  let c0_30 : Index := 0#32
  let arg2 : BitVec 32 := BitVec.ofNat 32 (i 2).val
  let c256_i32 : BitVec 32 := 256#32
  let v78 : BitVec 32 := Scalar.muli arg2 c256_i32
  let v79 : BitVec 32 := v78
  let v80 : Index := Scalar.indexCast v79
  let c0_31 : Index := 0#32
  ![0, v80.toNat, 0]
def k0_off10 (i : grid0.Coords) : Fin 2 → Nat :=
  let c0_32 : Index := 0#32
  let arg2 : BitVec 32 := BitVec.ofNat 32 (i 2).val
  let c256_i32 : BitVec 32 := 256#32
  let v78 : BitVec 32 := Scalar.muli arg2 c256_i32
  let v79 : BitVec 32 := v78
  let v83 : Index := Scalar.indexCast v79
  ![0, v83.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x256x896 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8192x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8192x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | "scale2" => some (((11863283 / 134217728) * (Real.log 2)⁻¹ : ℝ) : EReal)
  | _ => none
-- ==== ReferenceIdeal.lean ====
abbrev S4x8192x7168 : Shape := ⟨3, ![4, 8192, 7168]⟩
abbrev S4x8192x1024 : Shape := ⟨3, ![4, 8192, 1024]⟩
abbrev S56 : Shape := ⟨1, ![56]⟩
abbrev S8 : Shape := ⟨1, ![8]⟩
abbrev S4x8192x8x7x128 : Shape := ⟨5, ![4, 8192, 8, 7, 128]⟩
abbrev S4x8192x8x128 : Shape := ⟨4, ![4, 8192, 8, 128]⟩
abbrev S8x7 : Shape := ⟨2, ![8, 7]⟩
abbrev S8x1 : Shape := ⟨2, ![8, 1]⟩
abbrev S_ : Shape := ⟨0, ![]⟩
abbrev S1x8x7x1x1 : Shape := ⟨5, ![1, 8, 7, 1, 1]⟩
abbrev S1x1x8x1x1 : Shape := ⟨5, ![1, 1, 8, 1, 1]⟩
abbrev S8192 : Shape := ⟨1, ![8192]⟩
abbrev S4x8x8192x8192x7 : Shape := ⟨5, ![4, 8, 8192, 8192, 7]⟩
abbrev S4x8x7x8192x8192 : Shape := ⟨5, ![4, 8, 7, 8192, 8192]⟩
abbrev S1x8192 : Shape := ⟨2, ![1, 8192]⟩
abbrev S8192x1 : Shape := ⟨2, ![8192, 1]⟩
abbrev S8192x8192 : Shape := ⟨2, ![8192, 8192]⟩
abbrev S4x8x7x8192 : Shape := ⟨4, ![4, 8, 7, 8192]⟩
abbrev S4x8x7x8192x1 : Shape := ⟨5, ![4, 8, 7, 8192, 1]⟩
abbrev S4x8x128x7x8192 : Shape := ⟨5, ![4, 8, 128, 7, 8192]⟩

abbrev nBuf : Space → Nat
  | .hbm => 62
  | .vmem => 6
  | .smem => 0
  | _ => 0

abbrev bufTy : (tb : Table) → Fin (tcTables nBuf tb) → BufTy
  | .hbm, ⟨0, _⟩ => ⟨S4x8192x7168, .fp8e4m3⟩
  | .hbm, ⟨1, _⟩ => ⟨S4x8192x1024, .fp8e4m3⟩
  | .hbm, ⟨2, _⟩ => ⟨S4x8192x1024, .fp8e4m3⟩
  | .hbm, ⟨3, _⟩ => ⟨S56, .f32⟩
  | .hbm, ⟨4, _⟩ => ⟨S8, .f32⟩
  | .hbm, ⟨5, _⟩ => ⟨S8, .f32⟩
  | .hbm, ⟨6, _⟩ => ⟨S4x8192x7168, .f32⟩
  | .hbm, ⟨7, _⟩ => ⟨S4x8192x1024, .f32⟩
  | .hbm, ⟨8, _⟩ => ⟨S4x8192x1024, .bf16⟩
  | .hbm, ⟨9, _⟩ => ⟨S4x8192x8x7x128, .f32⟩
  | .hbm, ⟨10, _⟩ => ⟨S4x8192x8x128, .f32⟩
  | .hbm, ⟨11, _⟩ => ⟨S4x8192x8x128, .bf16⟩
  | .hbm, ⟨12, _⟩ => ⟨S8x7, .f32⟩
  | .hbm, ⟨13, _⟩ => ⟨S8x1, .f32⟩
  | .hbm, ⟨14, _⟩ => ⟨S8x7, .f32⟩
  | .hbm, ⟨15, _⟩ => ⟨S8x7, .f32⟩
  | .hbm, ⟨16, _⟩ => ⟨S_, .f32⟩
  | .hbm, ⟨17, _⟩ => ⟨S8x7, .f32⟩
  | .hbm, ⟨18, _⟩ => ⟨S8x7, .f32⟩
  | .hbm, ⟨19, _⟩ => ⟨S1x8x7x1x1, .f32⟩
  | .hbm, ⟨20, _⟩ => ⟨S1x1x8x1x1, .f32⟩
  | .hbm, ⟨21, _⟩ => ⟨S8192, .i32⟩
  | .hbm, ⟨22, _⟩ => ⟨S4x8x8192x8192x7, .f32⟩
  | .hbm, ⟨23, _⟩ => ⟨S4x8x7x8192x8192, .f32⟩
  | .hbm, ⟨24, _⟩ => ⟨S4x8x7x8192x8192, .f32⟩
  | .hbm, ⟨25, _⟩ => ⟨S4x8x7x8192x8192, .f32⟩
  | .hbm, ⟨26, _⟩ => ⟨S1x8192, .i32⟩
  | .hbm, ⟨27, _⟩ => ⟨S8192x1, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S4x8x7x8192x8192, .i1⟩
  | .hbm, ⟨34, _⟩ => ⟨S4x8x7x8192x8192, .f32⟩
  | .hbm, ⟨35, _⟩ => ⟨S4x8x7x8192x8192, .f32⟩
  | .hbm, ⟨36, _⟩ => ⟨S_, .f32⟩
  | .hbm, ⟨37, _⟩ => ⟨S4x8x7x8192, .f32⟩
  | .hbm, ⟨38, _⟩ => ⟨S4x8x7x8192x1, .f32⟩
  | .hbm, ⟨39, _⟩ => ⟨S4x8x7x8192x8192, .f32⟩
  | .hbm, ⟨40, _⟩ => ⟨S4x8x7x8192x8192, .f32⟩
  | .hbm, ⟨41, _⟩ => ⟨S4x8x7x8192x8192, .f32⟩
  | .hbm, ⟨42, _⟩ => ⟨S_, .f32⟩
  | .hbm, ⟨43, _⟩ => ⟨S4x8x7x8192, .f32⟩
  | .hbm, ⟨44, _⟩ => ⟨S4x8x7x8192x1, .f32⟩
  | .hbm, ⟨45, _⟩ => ⟨S_, .f32⟩
  | .hbm, ⟨46, _⟩ => ⟨S4x8x7x8192x1, .f32⟩
  | .hbm, ⟨47, _⟩ => ⟨S4x8x7x8192x1, .i1⟩
  | .hbm, ⟨48, _⟩ => ⟨S4x8x7x8192x8192, .f32⟩
  | .hbm, ⟨49, _⟩ => ⟨S4x8x7x8192x8192, .f32⟩
  | .hbm, ⟨50, _⟩ => ⟨S_, .f32⟩
  | .hbm, ⟨51, _⟩ => ⟨S_, .f32⟩
  | .hbm, ⟨52, _⟩ => ⟨S4x8x7x8192x8192, .i1⟩
  | .hbm, ⟨53, _⟩ => ⟨S4x8x7x8192x8192, .f32⟩
  | .hbm, ⟨54, _⟩ => ⟨S4x8x7x8192x8192, .f32⟩
  | .hbm, ⟨55, _⟩ => ⟨S4x8x7x8192x8192, .bf16⟩
  | .hbm, ⟨56, _⟩ => ⟨S4x8x128x7x8192, .f32⟩
  | .hbm, ⟨57, _⟩ => ⟨S4x8192x8x7x128, .f32⟩
  | .hbm, ⟨58, _⟩ => ⟨S4x8192x8x7x128, .f32⟩
  | .hbm, ⟨59, _⟩ => ⟨S4x8192x8x7x128, .f32⟩
  | .hbm, ⟨60, _⟩ => ⟨S4x8192x8x7x128, .bf16⟩
  | .hbm, ⟨61, _⟩ => ⟨S4x8192x7168, .bf16⟩
  | .local _ .vmem, ⟨0, _⟩ => ⟨S4x8192x7168, .fp8e4m3⟩
  | .local _ .vmem, ⟨1, _⟩ => ⟨S4x8192x1024, .fp8e4m3⟩
  | .local _ .vmem, ⟨2, _⟩ => ⟨S4x8192x1024, .fp8e4m3⟩
  | .local _ .vmem, ⟨3, _⟩ => ⟨S4x8192x7168, .f32⟩
  | .local _ .vmem, ⟨4, _⟩ => ⟨S4x8192x1024, .f32⟩
  | .local _ .vmem, ⟨5, _⟩ => ⟨S4x8192x1024, .bf16⟩
  | _, _ => ⟨S4x8192x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x8192x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8192x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8192x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8192x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.F.Runs.lean ====
/- What the frame runs of the kernel share: the region entry, the window blocks, the branch condition in closed form, the staging and scratch buffers. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 3 rfl).trans ((hA c 3).trans (V_main_arg0 m c)),
      (Pipeline.RDat.FramePost.arr_in h c 4 rfl).trans ((hA c 4).trans (V_main_arg1 m c)),
      (Pipeline.RDat.FramePost.arr_in h c 5 rfl).trans ((hA c 5).trans (V_main_arg2 m c)),
      (Pipeline.RDat.FramePost.arr_in h c 0 rfl).trans ((hA c 0).trans (V_main_arg3 m c)),
      (Pipeline.RDat.FramePost.arr_in h c 1 rfl).trans ((hA c 1).trans (V_main_arg4 m c)),
      (Pipeline.RDat.FramePost.arr_in h c 2 rfl).trans ((hA c 2).trans (V_main_arg5 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 32) — by arithmetic of the point. -/
theorem hcond0_0 : ∀ t : Fin cfg0.N, cond0_0 (grid0.coords t) ↔ t.val % 32 = 0 :=
  (fun t => by
    have ht : t.val < 1024 := Nat.lt_of_lt_of_eq t.isLt N_0
    have e0 : (grid0.coords t 0).val = t.val / 256 % 4 := Pipeline.Grid.coords_val t 0 (by decide) rfl
    have e1 : (grid0.coords t 1).val = t.val / 32 % 8 := Pipeline.Grid.coords_val t 1 (by decide) rfl
    have e2 : (grid0.coords t 2).val = t.val / 1 % 32 := Pipeline.Grid.coords_val t 2 (by decide) rfl
    simp only [cond0_0, k0_cond1, e0, e1, e2]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (t : Fin cfg0.N) : Memref sig .tc .smem S56 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x896 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8192x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x896 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S128x8192 .bf16 := Memref.whole cc0_scratch0
abbrev scM0_1 : Memref sig .tc .vmem S7x1x256 .f32 := Memref.whole cc0_scratch1
abbrev scM0_2 : Memref sig .tc .vmem S7x1x256 .f32 := Memref.whole cc0_scratch2
abbrev scM0_3 : Memref sig .tc .vmem S7x128x256 .f32 := Memref.whole cc0_scratch3
/-- The scratch `arg10` the kernel carries between points, as a view: what it holds is stated through it. -/
abbrev VS0_0 : View sig .tc .vmem S128x8192 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Hand

end
-- ==== Proof.F.RunA.lean ====
/- The run of the kernel body at a point that fills the value buffer; the output block forgotten. -/
module

public import proofs.«01_k».proof.Proof.F.Runs

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1288000 in
/-- What the body's stores leave in each output's staging memref, as pieces (last first) IN CASE A (`scf.if` 0 taken: points 0, 32, … 992: 32 of 1024), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6) at anything, handed back at some contents nothing names. -/
noncomputable def kernelRun0_A (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (hc0 : cond0_0 i)
    (x0 : Vec F S56 .f32) (x1 : Vec F S8 .f32) (x2 : Vec F S8 .f32) (x3 : Vec F S1x256x896 .fp8e4m3) (x4 : Vec F S1x8192x128 .fp8e4m3) (x5 : Vec F S1x8192x128 .fp8e4m3) :
    { LS0 : List (View.Piece (Elt F) S128x8192 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ f, arg10.view.loc (c : Thread nD τ) ↦[arg10.view.set]{fullShare} arg10.view.writes (Elt F) f LS0) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_fp8_gqa_prefill i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_fp8_gqa_prefill_eq_skeleton]; unfold cc0_fp8_gqa_prefill_skel
    simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Hand

end
-- ==== Proof.F.RunB.lean ====
/- The run of the kernel body at a point where the value buffer is filled; the output block forgotten. -/
module

public import proofs.«01_k».proof.Proof.F.RunA

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1220000 in
/-- What the body's stores leave in each output's staging memref, as pieces (last first) IN CASE B (`scf.if` 0 not taken: points 1, 2, … 1023: 992 of 1024), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6) at anything, handed back at some contents nothing names. -/
noncomputable def kernelRun0_B (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (hc0 : ¬cond0_0 i)
    (x0 : Vec F S56 .f32) (x1 : Vec F S8 .f32) (x2 : Vec F S8 .f32) (x3 : Vec F S1x256x896 .fp8e4m3) (x4 : Vec F S1x8192x128 .fp8e4m3) (x5 : Vec F S1x8192x128 .fp8e4m3) (xs0 : Vec F S128x8192 .bf16) :
    { LS0 : List (View.Piece (Elt F) S128x8192 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_fp8_gqa_prefill i arg3 harg3 arg4 harg4 arg5 harg5 arg6 harg6 arg7 harg7 arg8 harg8 arg9 harg9 arg10 harg10 arg11 harg11 arg12 harg12 arg13 harg13) K } := by
  refine ⟨[], fun E K => ?run⟩
  case run =>
    simp only [cc0_fp8_gqa_prefill_eq_skeleton]; unfold cc0_fp8_gqa_prefill_skel
    simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [HS0]
    · iexists _; isplitr; · ipureintro; exact harg10.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Hand

end
-- ==== Proof.F.Frame.lean ====
/- The frame of the kernel: it terminates without fault and leaves its arguments unchanged. -/
module

public import proofs.«01_k».proof.Proof.F.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg10`, which the kernel carries between points, cover it: 32 pieces of `S128x256` tiling it (Lib/Ring.lean `Piece.tiledL`). -/
theorem scover0_A_0 (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (hc0 : cond0_0 i)
    (x0 : Vec F S56 .f32) (x1 : Vec F S8 .f32) (x2 : Vec F S8 .f32) (x3 : Vec F S1x256x896 .fp8e4m3) (x4 : Vec F S1x8192x128 .fp8e4m3) (x5 : Vec F S1x8192x128 .fp8e4m3) (y : S128x8192.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3 x4 x5).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3 x4 x5).1 S128x256.size (by sl_kernel_rfl) y

/-- What case A leaves in scratch `arg10`: its pieces read back over junk. -/
def sout0_A_0 (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (hc0 : cond0_0 i)
    (x0 : Vec F S56 .f32) (x1 : Vec F S8 .f32) (x2 : Vec F S8 .f32) (x3 : Vec F S1x256x896 .fp8e4m3) (x4 : Vec F S1x8192x128 .fp8e4m3) (x5 : Vec F S1x8192x128 .fp8e4m3) : Vec F S128x8192 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 hc0 x0 x1 x2 x3 x4 x5).1)

/-- Case B stores nothing into scratch `arg10`: it holds what the point before left. -/
def sout0_B_0 (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (hc0 : ¬cond0_0 i)
    (x0 : Vec F S56 .f32) (x1 : Vec F S8 .f32) (x2 : Vec F S8 .f32) (x3 : Vec F S1x256x896 .fp8e4m3) (x4 : Vec F S1x8192x128 .fp8e4m3) (x5 : Vec F S1x8192x128 .fp8e4m3) (xs0 : Vec F S128x8192 .bf16) : Vec F S128x8192 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x8192 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 32 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))

/-- `outsAt0` at a point of case A: that case's contents. -/
theorem outsAt0_A (c : Dev nD) (t : Fin cfg0.N) (h0 : t.val % 32 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 32 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 1024 := lt_of_lt_of_eq t.isLt (show cfg0.N = 1024 from N_0)
  by_cases h0 : t.val % 32 = 0
  · by_cases hz : t.val = 0
    · rw [PhiS_castSucc m c t, PhiS_zero m c _ _ hz, PhiA0_eq]
      rw [outsAt0_A m c t h0]
      unfold sout0_A_0
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, ⟨%es0, HS0⟩, HS1, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m c t, PhiS_pos m c _ _ hz]
      rw [outsAt0_A m c t h0]
      unfold sout0_A_0
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexact HS1
      isplitl [HS2]; · iexact HS2
      isplitl [HS3]; · iexact HS3
      iintro ⟨H0, H1, H2, H3, H4, H5, H6, ⟨%es0, HS0⟩, HS1, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _)
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · by_cases hz : t.val = 0
    · exfalso; have hN : t.val < 1024 := lt_of_lt_of_eq t.isLt (show cfg0.N = 1024 from N_0); omega
    · rw [PhiS_castSucc m c t, PhiS_pos m c _ _ hz]
      rw [outsAt0_B m c t h0]
      unfold sout0_B_0
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 1024 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Hand

end
-- ==== Proof.K.Step.lean ====
/- One trip of the kernel's loop over key blocks, as the step of the online softmax on each of the seven query heads. -/
module

public import proofs.«01_k».proof.Proof.Gen.KernelIdeal.Loops
public import Idealize.ShloMosaic.Lib.Pipeline.ReadBack

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The step of the online softmax on one head -/

/-- The new running maximum: scale `s`, key tile `kt`, query tile `q`, old maximum `m`. -/
def stepM (s : F .f32) (kt q : Vec F S1x256x128 .fp8e4m3) (m : Vec F S1x1x256 .f32) : Vec F S1x1x256 .f32 :=
  k0_pay10 s kt q m
/-- The new running denominator, from the old maximum `m` and denominator `l`. -/
def stepL (s : F .f32) (kt q : Vec F S1x256x128 .fp8e4m3) (m l : Vec F S1x1x256 .f32) : Vec F S1x1x256 .f32 :=
  k0_pay9 s kt q m l
/-- The new running numerator, from the transposed value tile `vt`, the old maximum `m` and numerator `a`. -/
def stepA (s : F .f32) (kt q : Vec F S1x256x128 .fp8e4m3) (vt : Vec F S128x256 .bf16) (m : Vec F S1x1x256 .f32)
    (a : Vec F S1x128x256 .f32) : Vec F S1x128x256 .f32 :=
  k0_pay11 vt (k0_pay7 s kt q m) (k0_pay8 s kt q m) a
/-- The same three for the block on the diagonal, where the keys after the query are masked. -/
def maskM (s : F .f32) (kt q : Vec F S1x256x128 .fp8e4m3) (m : Vec F S1x1x256 .f32) : Vec F S1x1x256 .f32 :=
  k0_pay142 (k0_pay137 s kt q m)
@[inherit_doc maskM]
def maskL (s : F .f32) (kt q : Vec F S1x256x128 .fp8e4m3) (m l : Vec F S1x1x256 .f32) : Vec F S1x1x256 .f32 :=
  k0_pay141 (k0_pay140 s kt q m l)
@[inherit_doc maskM]
def maskA (s : F .f32) (kt q : Vec F S1x256x128 .fp8e4m3) (vt : Vec F S128x256 .bf16) (m : Vec F S1x1x256 .f32)
    (a : Vec F S1x128x256 .f32) : Vec F S1x128x256 .f32 :=
  k0_pay143 vt (k0_pay138 s kt q m) (k0_pay139 s kt q m) a

/-! ## The boxes of the seven heads -/

theorem inbS (h : Fin 7) : ∀ a, (![h.val, 0, 0] : Fin 3 → ℕ) a + S1x1x256.size a ≤ S7x1x256.size a := by
  revert h; decide
theorem inbA (h : Fin 7) : ∀ a, (![h.val, 0, 0] : Fin 3 → ℕ) a + S1x128x256.size a ≤ S7x128x256.size a := by
  revert h; decide
theorem inbQ (h : Fin 7) : ∀ a, (![0, 0, 128 * h.val] : Fin 3 → ℕ) a + S1x256x128.size a ≤ S1x256x896.size a := by
  revert h; decide
/-- Head `h`'s row of the running maxima and denominators, -/
abbrev rS (h : Fin 7) : Rect S7x1x256 := Rect.unit (s := S7x1x256) ![h.val, 0, 0] S1x1x256.size (inbS h)
/-- its block of the running numerators, -/
abbrev rA (h : Fin 7) : Rect S7x128x256 := Rect.unit (s := S7x128x256) ![h.val, 0, 0] S1x128x256.size (inbA h)
/-- and its columns of a query block. -/
abbrev rQ (h : Fin 7) : Rect S1x256x896 := Rect.unit (s := S1x256x896) ![0, 0, 128 * h.val] S1x256x128.size (inbQ h)
/-- Two heads' boxes do not meet. -/
theorem rS_disj : ∀ a b : Fin 7, a ≠ b → LoadRect.disj (rS a) (rS b).toLoadRect = true := by decide
@[inherit_doc rS_disj]
theorem rA_disj : ∀ a b : Fin 7, a ≠ b → LoadRect.disj (rA a) (rA b).toLoadRect = true := by decide

/-- Seven pieces, the last head's on top, over `L`. -/
abbrev seven {Val : EltTy → Type} {s : Shape} {e : EltTy} (R : Fin 7 → Rect s) (w : ∀ h, (R h).shape.Idx → Val e)
    (L : List (View.Piece Val s e)) : List (View.Piece Val s e) :=
  ⟨R 6, w 6⟩ :: ⟨R 5, w 5⟩ :: ⟨R 4, w 4⟩ :: ⟨R 3, w 3⟩ :: ⟨R 2, w 2⟩ :: ⟨R 1, w 1⟩ :: ⟨R 0, w 0⟩ :: L

/-- A load of one head's box reads the piece written there. -/
theorem readCov_seven {Val : EltTy → Type} {s : Shape} {e : EltTy} [∀ e, Nonempty (Val e)] {sig : RefSig} {κ : Kind} {sp : Space}
    (v : View sig κ sp s e) (R : Fin 7 → Rect s) (hd : ∀ a b : Fin 7, a ≠ b → LoadRect.disj (R a) (R b).toLoadRect = true)
    (w : ∀ h, (R h).shape.Idx → Val e) (L : List (View.Piece Val s e)) (h : Fin 7) :
    v.readCov (seven R w L) (R h).toLoadRect = w h := by
  have sk : ∀ (a b : Fin 7) (u : (R a).shape.Idx → Val e) (L : List (View.Piece Val s e)), a ≠ b →
      v.readCov (⟨R a, u⟩ :: L) (R b).toLoadRect = v.readCov L (R b).toLoadRect :=
    fun a b u L hab => View.readCov_skip v _ _ _ _ (hd a b hab)
  obtain rfl | h6 := eq_or_ne h 6
  · exact View.readCov_cons_toLoadRect v _ _ _
  rw [sk 6 h _ _ h6.symm]
  obtain rfl | h5 := eq_or_ne h 5
  · exact View.readCov_cons_toLoadRect v _ _ _
  rw [sk 5 h _ _ h5.symm]
  obtain rfl | h4 := eq_or_ne h 4
  · exact View.readCov_cons_toLoadRect v _ _ _
  rw [sk 4 h _ _ h4.symm]
  obtain rfl | h3 := eq_or_ne h 3
  · exact View.readCov_cons_toLoadRect v _ _ _
  rw [sk 3 h _ _ h3.symm]
  obtain rfl | h2 := eq_or_ne h 2
  · exact View.readCov_cons_toLoadRect v _ _ _
  rw [sk 2 h _ _ h2.symm]
  obtain rfl | h1 := eq_or_ne h 1
  · exact View.readCov_cons_toLoadRect v _ _ _
  rw [sk 1 h _ _ h1.symm]
  obtain rfl : h = 0 := by omega
  exact View.readCov_cons_toLoadRect v _ _ _

/-- The same through the contents the pieces were written over. -/
theorem readAt_seven {Val : EltTy → Type} {s : Shape} {e : EltTy} [∀ e, Nonempty (Val e)] {sig : RefSig} {κ : Kind} {sp : Space}
    (v : View sig κ sp s e) (f : v.ty.Contents Val) (R : Fin 7 → Rect s) (hd : ∀ a b : Fin 7, a ≠ b → LoadRect.disj (R a) (R b).toLoadRect = true)
    (w : ∀ h, (R h).shape.Idx → Val e) (L : List (View.Piece Val s e)) (h : Fin 7) :
    v.readAt Val (R h).toLoadRect (v.writes Val f (seven R w L)) = w h := by
  rw [View.readAt_writes_of_cover v f _ _ ?_, readCov_seven v R hd]
  intro j
  refine ⟨⟨R h, w h⟩, ?_, (R h).idx_mem j⟩
  fin_cases h <;> simp [seven]

/-! ## What one trip leaves on each head -/

section
variable {i : grid0.Coords}
/-- The key tile trip `k` loads, -/
abbrev tK (arg7 : Memref sig .tc .vmem S1x8192x128 .fp8e4m3) (X : BufTy.Contents (Elt F) arg7.view.ty) (i : grid0.Coords)
    (k : Fin (k0_t2_loop i).trips) : Vec F S1x256x128 .fp8e4m3 :=
  View.readAt (Elt F) arg7.view (Rect.unit (s := S1x8192x128) (k0_off5 i k) S1x256x128.size (k0_off5_inb i k)).toLoadRect X
/-- the transposed value tile it loads, -/
abbrev tV (arg10 : Memref sig .tc .vmem S128x8192 .bf16) (X : BufTy.Contents (Elt F) arg10.view.ty) (i : grid0.Coords)
    (k : Fin (k0_t2_loop i).trips) : Vec F S128x256 .bf16 :=
  View.readAt (Elt F) arg10.view (Rect.unit (s := S128x8192) (k0_off6 i k) S128x256.size (k0_off6_inb i k)).toLoadRect X
/-- and head `h`'s query tile. -/
abbrev tQ (arg6 : Memref sig .tc .vmem S1x256x896 .fp8e4m3) (X : BufTy.Contents (Elt F) arg6.view.ty) (h : Fin 7) :
    Vec F S1x256x128 .fp8e4m3 :=
  View.readAt (Elt F) arg6.view (rQ h).toLoadRect X
end

/-- The pieces one trip writes (maxima): each head's step. -/
theorem tripM_pieces (𝒱 : Variants) (c : Dev nD) (bd : Option 𝒱.V) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (arg2 : BitVec 32) (v22 : F .f32) (v30 : F .f32) (v38 : F .f32) (v46 : F .f32) (v54 : F .f32) (v62 : F .f32) (v70 : F .f32) (c0_i32_25 : BitVec 32) (c0_i32_26 : BitVec 32) (v74 : BitVec 32) (X_arg6 : BufTy.Contents (Elt F) arg6.view.ty) (X_arg7 : BufTy.Contents (Elt F) arg7.view.ty) (X_arg10 : BufTy.Contents (Elt F) arg10.view.ty) (k : Fin (k0_t2_loop i).trips) (acc : BitVec 32) (f_arg11 : BufTy.Contents (Elt F) arg11.view.ty) (f_arg12 : BufTy.Contents (Elt F) arg12.view.ty) (f_arg13 : BufTy.Contents (Elt F) arg13.view.ty) :
    (tripL_k0_t2 (F := F) 𝒱 c bd i arg3 harg3 arg4 harg4 arg5 harg5 arg6 harg6 arg7 harg7 arg8 harg8 arg9 harg9 arg10 harg10 arg11 harg11 arg12 harg12 arg13 harg13 arg2 v22 v30 v38 v46 v54 v62 v70 c0_i32_25 c0_i32_26 v74 X_arg6 X_arg7 X_arg10 k acc f_arg11 f_arg12 f_arg13).1 = seven rS (fun h => stepM (![v22, v30, v38, v46, v54, v62, v70] h) (tK arg7 X_arg7 i k) (tQ arg6 X_arg6 h) (View.readAt (Elt F) arg11.view (rS h).toLoadRect f_arg11)) [] := by
  unfold tripL_k0_t2 trip_k0_t2
  rfl

/-- What a load of head `h`'s box reads after the trip: its step. -/
theorem tripM (𝒱 : Variants) (c : Dev nD) (bd : Option 𝒱.V) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (arg2 : BitVec 32) (v22 : F .f32) (v30 : F .f32) (v38 : F .f32) (v46 : F .f32) (v54 : F .f32) (v62 : F .f32) (v70 : F .f32) (c0_i32_25 : BitVec 32) (c0_i32_26 : BitVec 32) (v74 : BitVec 32) (X_arg6 : BufTy.Contents (Elt F) arg6.view.ty) (X_arg7 : BufTy.Contents (Elt F) arg7.view.ty) (X_arg10 : BufTy.Contents (Elt F) arg10.view.ty) (k : Fin (k0_t2_loop i).trips) (acc : BitVec 32) (f_arg11 : BufTy.Contents (Elt F) arg11.view.ty) (f_arg12 : BufTy.Contents (Elt F) arg12.view.ty) (f_arg13 : BufTy.Contents (Elt F) arg13.view.ty) (h : Fin 7) :
    View.readAt (Elt F) arg11.view (rS h).toLoadRect (arg11.view.writes (Elt F) f_arg11 (tripL_k0_t2 (F := F) 𝒱 c bd i arg3 harg3 arg4 harg4 arg5 harg5 arg6 harg6 arg7 harg7 arg8 harg8 arg9 harg9 arg10 harg10 arg11 harg11 arg12 harg12 arg13 harg13 arg2 v22 v30 v38 v46 v54 v62 v70 c0_i32_25 c0_i32_26 v74 X_arg6 X_arg7 X_arg10 k acc f_arg11 f_arg12 f_arg13).1)
      = stepM (![v22, v30, v38, v46, v54, v62, v70] h) (tK arg7 X_arg7 i k) (tQ arg6 X_arg6 h) (View.readAt (Elt F) arg11.view (rS h).toLoadRect f_arg11) := by
  rw [tripM_pieces]
  exact readAt_seven arg11.view f_arg11 rS rS_disj _ [] h

/-- The pieces one trip writes (denominators): each head's step. -/
theorem tripL_pieces (𝒱 : Variants) (c : Dev nD) (bd : Option 𝒱.V) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (arg2 : BitVec 32) (v22 : F .f32) (v30 : F .f32) (v38 : F .f32) (v46 : F .f32) (v54 : F .f32) (v62 : F .f32) (v70 : F .f32) (c0_i32_25 : BitVec 32) (c0_i32_26 : BitVec 32) (v74 : BitVec 32) (X_arg6 : BufTy.Contents (Elt F) arg6.view.ty) (X_arg7 : BufTy.Contents (Elt F) arg7.view.ty) (X_arg10 : BufTy.Contents (Elt F) arg10.view.ty) (k : Fin (k0_t2_loop i).trips) (acc : BitVec 32) (f_arg11 : BufTy.Contents (Elt F) arg11.view.ty) (f_arg12 : BufTy.Contents (Elt F) arg12.view.ty) (f_arg13 : BufTy.Contents (Elt F) arg13.view.ty) :
    (tripL_k0_t2 (F := F) 𝒱 c bd i arg3 harg3 arg4 harg4 arg5 harg5 arg6 harg6 arg7 harg7 arg8 harg8 arg9 harg9 arg10 harg10 arg11 harg11 arg12 harg12 arg13 harg13 arg2 v22 v30 v38 v46 v54 v62 v70 c0_i32_25 c0_i32_26 v74 X_arg6 X_arg7 X_arg10 k acc f_arg11 f_arg12 f_arg13).2.1 = seven rS (fun h => stepL (![v22, v30, v38, v46, v54, v62, v70] h) (tK arg7 X_arg7 i k) (tQ arg6 X_arg6 h) (View.readAt (Elt F) arg11.view (rS h).toLoadRect f_arg11) (View.readAt (Elt F) arg12.view (rS h).toLoadRect f_arg12)) [] := by
  unfold tripL_k0_t2 trip_k0_t2
  rfl

/-- What a load of head `h`'s box reads after the trip: its step. -/
theorem tripL (𝒱 : Variants) (c : Dev nD) (bd : Option 𝒱.V) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (arg2 : BitVec 32) (v22 : F .f32) (v30 : F .f32) (v38 : F .f32) (v46 : F .f32) (v54 : F .f32) (v62 : F .f32) (v70 : F .f32) (c0_i32_25 : BitVec 32) (c0_i32_26 : BitVec 32) (v74 : BitVec 32) (X_arg6 : BufTy.Contents (Elt F) arg6.view.ty) (X_arg7 : BufTy.Contents (Elt F) arg7.view.ty) (X_arg10 : BufTy.Contents (Elt F) arg10.view.ty) (k : Fin (k0_t2_loop i).trips) (acc : BitVec 32) (f_arg11 : BufTy.Contents (Elt F) arg11.view.ty) (f_arg12 : BufTy.Contents (Elt F) arg12.view.ty) (f_arg13 : BufTy.Contents (Elt F) arg13.view.ty) (h : Fin 7) :
    View.readAt (Elt F) arg12.view (rS h).toLoadRect (arg12.view.writes (Elt F) f_arg12 (tripL_k0_t2 (F := F) 𝒱 c bd i arg3 harg3 arg4 harg4 arg5 harg5 arg6 harg6 arg7 harg7 arg8 harg8 arg9 harg9 arg10 harg10 arg11 harg11 arg12 harg12 arg13 harg13 arg2 v22 v30 v38 v46 v54 v62 v70 c0_i32_25 c0_i32_26 v74 X_arg6 X_arg7 X_arg10 k acc f_arg11 f_arg12 f_arg13).2.1)
      = stepL (![v22, v30, v38, v46, v54, v62, v70] h) (tK arg7 X_arg7 i k) (tQ arg6 X_arg6 h) (View.readAt (Elt F) arg11.view (rS h).toLoadRect f_arg11) (View.readAt (Elt F) arg12.view (rS h).toLoadRect f_arg12) := by
  rw [tripL_pieces]
  exact readAt_seven arg12.view f_arg12 rS rS_disj _ [] h

/-- The pieces one trip writes (numerators): each head's step. -/
theorem tripA_pieces (𝒱 : Variants) (c : Dev nD) (bd : Option 𝒱.V) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (arg2 : BitVec 32) (v22 : F .f32) (v30 : F .f32) (v38 : F .f32) (v46 : F .f32) (v54 : F .f32) (v62 : F .f32) (v70 : F .f32) (c0_i32_25 : BitVec 32) (c0_i32_26 : BitVec 32) (v74 : BitVec 32) (X_arg6 : BufTy.Contents (Elt F) arg6.view.ty) (X_arg7 : BufTy.Contents (Elt F) arg7.view.ty) (X_arg10 : BufTy.Contents (Elt F) arg10.view.ty) (k : Fin (k0_t2_loop i).trips) (acc : BitVec 32) (f_arg11 : BufTy.Contents (Elt F) arg11.view.ty) (f_arg12 : BufTy.Contents (Elt F) arg12.view.ty) (f_arg13 : BufTy.Contents (Elt F) arg13.view.ty) :
    (tripL_k0_t2 (F := F) 𝒱 c bd i arg3 harg3 arg4 harg4 arg5 harg5 arg6 harg6 arg7 harg7 arg8 harg8 arg9 harg9 arg10 harg10 arg11 harg11 arg12 harg12 arg13 harg13 arg2 v22 v30 v38 v46 v54 v62 v70 c0_i32_25 c0_i32_26 v74 X_arg6 X_arg7 X_arg10 k acc f_arg11 f_arg12 f_arg13).2.2 = seven rA (fun h => stepA (![v22, v30, v38, v46, v54, v62, v70] h) (tK arg7 X_arg7 i k) (tQ arg6 X_arg6 h) (tV arg10 X_arg10 i k) (View.readAt (Elt F) arg11.view (rS h).toLoadRect f_arg11) (View.readAt (Elt F) arg13.view (rA h).toLoadRect f_arg13)) [] := by
  unfold tripL_k0_t2 trip_k0_t2
  rfl

/-- What a load of head `h`'s box reads after the trip: its step. -/
theorem tripA (𝒱 : Variants) (c : Dev nD) (bd : Option 𝒱.V) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (arg2 : BitVec 32) (v22 : F .f32) (v30 : F .f32) (v38 : F .f32) (v46 : F .f32) (v54 : F .f32) (v62 : F .f32) (v70 : F .f32) (c0_i32_25 : BitVec 32) (c0_i32_26 : BitVec 32) (v74 : BitVec 32) (X_arg6 : BufTy.Contents (Elt F) arg6.view.ty) (X_arg7 : BufTy.Contents (Elt F) arg7.view.ty) (X_arg10 : BufTy.Contents (Elt F) arg10.view.ty) (k : Fin (k0_t2_loop i).trips) (acc : BitVec 32) (f_arg11 : BufTy.Contents (Elt F) arg11.view.ty) (f_arg12 : BufTy.Contents (Elt F) arg12.view.ty) (f_arg13 : BufTy.Contents (Elt F) arg13.view.ty) (h : Fin 7) :
    View.readAt (Elt F) arg13.view (rA h).toLoadRect (arg13.view.writes (Elt F) f_arg13 (tripL_k0_t2 (F := F) 𝒱 c bd i arg3 harg3 arg4 harg4 arg5 harg5 arg6 harg6 arg7 harg7 arg8 harg8 arg9 harg9 arg10 harg10 arg11 harg11 arg12 harg12 arg13 harg13 arg2 v22 v30 v38 v46 v54 v62 v70 c0_i32_25 c0_i32_26 v74 X_arg6 X_arg7 X_arg10 k acc f_arg11 f_arg12 f_arg13).2.2)
      = stepA (![v22, v30, v38, v46, v54, v62, v70] h) (tK arg7 X_arg7 i k) (tQ arg6 X_arg6 h) (tV arg10 X_arg10 i k) (View.readAt (Elt F) arg11.view (rS h).toLoadRect f_arg11) (View.readAt (Elt F) arg13.view (rA h).toLoadRect f_arg13) := by
  rw [tripA_pieces]
  exact readAt_seven arg13.view f_arg13 rA rA_disj _ [] h

end Cert.KernelIdeal.Hand

end
-- ==== Proof.K.Loop.lean ====
/- The kernel's loop over key blocks: after `n` trips each head holds `n` steps of the online softmax. -/
module

public import proofs.«01_k».proof.Proof.K.Step
public import Idealize.ShloMosaic.Lib.Pointwise
public import Idealize.ShloMosaic.Lib.Pipeline.ValueKit.Tiles
public import Idealize.ShloMosaic.Lib.LoopRemainder

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## Tiles of the whole arrays -/

/-- Key tile `n` of one key head's keys. -/
def tileK (x : Vec F S1x8192x128 .fp8e4m3) (n : ℕ) : Vec F S1x256x128 .fp8e4m3 := fun j =>
  x (ix3 (j 0) ⟨(256 * n + (j 1).val) % 8192, Nat.mod_lt _ (by decide)⟩ (j 2))
/-- Value tile `n` of the transposed values. -/
def tileV (x : Vec F S128x8192 .bf16) (n : ℕ) : Vec F S128x256 .bf16 := fun j =>
  x (ix2 (j 0) ⟨(256 * n + (j 1).val) % 8192, Nat.mod_lt _ (by decide)⟩)
/-- Head `h`'s columns of a query block. -/
def tileQ (x : Vec F S1x256x896 .fp8e4m3) (h : Fin 7) : Vec F S1x256x128 .fp8e4m3 := fun j =>
  x (ix3 (j 0) (j 1) ⟨128 * h.val + (j 2).val, by have := h.isLt; have h2 : (j 2).val < 128 := (j 2).isLt; omega⟩)

/-- The loop makes as many trips as there are key blocks before the query block's own. -/
theorem trips_t2 (i : grid0.Coords) : (k0_t2_loop i).trips = (i 2).val := by
  have h : ∀ q : Fin 32, Scf.trips (0#32) (Scalar.addi (0#32) (Scalar.muli (Scalar.divsi (Scalar.subi (BitVec.ofNat 32 q.val) 0#32) 1#32) 1#32)) 1#32 = q.val := by
    decide
  exact h (i 2)
/-- The remainder loop makes none. -/
theorem trips_t3 (i : grid0.Coords) : (k0_t3_loop i).trips = 0 := by
  have h : ∀ q : Fin 32, Scf.trips (Scalar.addi (0#32) (Scalar.muli (Scalar.divsi (Scalar.subi (BitVec.ofNat 32 q.val) 0#32) 1#32) 1#32)) (Scalar.addi (0#32) (Scalar.subi (BitVec.ofNat 32 q.val) 0#32)) 1#32 = 0 := by
    decide
  exact h (i 2)

theorem iv256 : ∀ k : Fin 32, (Scalar.indexCast (Scalar.muli (Scf.iv (0#32) (1#32) k.val) 256#32)).toNat = 256 * k.val := by decide
/-- Where trip `k` reads its key tile, -/
theorem off5 (i : grid0.Coords) (k : Fin (k0_t2_loop i).trips) : k0_off5 i k = ![0, 256 * k.val, 0] := by
  have hk : k.val < 32 := (k.isLt.trans_eq (trips_t2 i)).trans (i 2).isLt
  show (![0, _, 0] : Fin 3 → ℕ) = _
  rw [← iv256 ⟨k.val, hk⟩]
/-- and its value tile. -/
theorem off6 (i : grid0.Coords) (k : Fin (k0_t2_loop i).trips) : k0_off6 i k = ![0, 256 * k.val] := by
  have hk : k.val < 32 := (k.isLt.trans_eq (trips_t2 i)).trans (i 2).isLt
  show (![0, _] : Fin 2 → ℕ) = _
  rw [← iv256 ⟨k.val, hk⟩]
theorem bv256 : ∀ k : Fin 32, (Scalar.indexCast (Scalar.muli (BitVec.ofNat 32 k.val) 256#32)).toNat = 256 * k.val := by decide
/-- Where the diagonal block's key tile is read, -/
theorem off9 (i : grid0.Coords) : k0_off9 i = ![0, 256 * (i 2).val, 0] := by
  show (![0, _, 0] : Fin 3 → ℕ) = _
  rw [← bv256 (i 2)]
/-- and its value tile. -/
theorem off10 (i : grid0.Coords) : k0_off10 i = ![0, 256 * (i 2).val] := by
  show (![0, _] : Fin 2 → ℕ) = _
  rw [← bv256 (i 2)]

/-- A load of 256 keys at row `256 * n` is key tile `n`. -/
theorem readAt_tileK (arg7 : Memref sig .tc .vmem S1x8192x128 .fp8e4m3) (X : BufTy.Contents (Elt F) arg7.view.ty) {off : Fin 3 → ℕ}
    (n : ℕ) (hn : n < 32) (ho : off = ![0, 256 * n, 0]) (inb : ∀ a, off a + S1x256x128.size a ≤ S1x8192x128.size a) :
    View.readAt (Elt F) arg7.view (Rect.unit (s := S1x8192x128) off S1x256x128.size inb).toLoadRect X
      = tileK (arg7.view.read (Elt F) X) n := by
  subst ho
  funext j
  show arg7.view.read (Elt F) X _ = arg7.view.read (Elt F) X _
  congr 1
  funext a
  apply Fin.ext
  have h1 : (j 1).val < 256 := (j 1).isLt
  rw [Rect.idx_unit_val]
  fin_cases a
  · show 0 + (j 0).val = (j 0).val; omega
  · show 256 * n + (j 1).val = (256 * n + (j 1).val) % 8192; omega
  · show 0 + (j 2).val = (j 2).val; omega
/-- A load of 256 transposed values at column `256 * n` is value tile `n`. -/
theorem readAt_tileV (arg10 : Memref sig .tc .vmem S128x8192 .bf16) (X : BufTy.Contents (Elt F) arg10.view.ty) {off : Fin 2 → ℕ}
    (n : ℕ) (hn : n < 32) (ho : off = ![0, 256 * n]) (inb : ∀ a, off a + S128x256.size a ≤ S128x8192.size a) :
    View.readAt (Elt F) arg10.view (Rect.unit (s := S128x8192) off S128x256.size inb).toLoadRect X
      = tileV (arg10.view.read (Elt F) X) n := by
  subst ho
  funext j
  show arg10.view.read (Elt F) X _ = arg10.view.read (Elt F) X _
  congr 1
  funext a
  apply Fin.ext
  have h1 : (j 1).val < 256 := (j 1).isLt
  rw [Rect.idx_unit_val]
  fin_cases a
  · show 0 + (j 0).val = (j 0).val; omega
  · show 256 * n + (j 1).val = (256 * n + (j 1).val) % 8192; omega
/-- A load of head `h`'s columns of the query block is its query tile. -/
theorem readAt_tileQ (arg6 : Memref sig .tc .vmem S1x256x896 .fp8e4m3) (X : BufTy.Contents (Elt F) arg6.view.ty) (h : Fin 7) :
    tQ arg6 X h = tileQ (arg6.view.read (Elt F) X) h := by
  funext j
  show arg6.view.read (Elt F) X _ = arg6.view.read (Elt F) X _
  congr 1
  funext a
  apply Fin.ext
  rw [Rect.idx_unit_val]
  fin_cases a
  · show 0 + (j 0).val = (j 0).val; omega
  · show 0 + (j 1).val = (j 1).val; omega
  · rfl

/-! ## The loop -/

/-- A head's running maximum, denominator and numerator. -/
abbrev HS (F : FTy → Type) : Type := Vec F S1x1x256 .f32 × Vec F S1x1x256 .f32 × Vec F S1x128x256 .f32

/-- `n` steps of the online softmax on one head, over key tiles `K` and value tiles `V`, from `st`. -/
def headAt (s : F .f32) (q : Vec F S1x256x128 .fp8e4m3) (K : ℕ → Vec F S1x256x128 .fp8e4m3) (V : ℕ → Vec F S128x256 .bf16)
    (st : HS F) : ℕ → HS F
  | 0 => st
  | n + 1 =>
    let p := headAt s q K V st n
    (stepM s (K n) q p.1, stepL s (K n) q p.1 p.2.1, stepA s (K n) q (V n) p.1 p.2.2)

/-- After `n` trips each head's boxes hold `n` steps from what they held before the loop. -/
theorem loop_heads (𝒱 : Variants) (c : Dev nD) (bd : Option 𝒱.V) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (arg2 : BitVec 32) (v22 : F .f32) (v30 : F .f32) (v38 : F .f32) (v46 : F .f32) (v54 : F .f32) (v62 : F .f32) (v70 : F .f32) (c0_i32_25 : BitVec 32) (c0_i32_26 : BitVec 32) (v74 : BitVec 32) (X_arg6 : BufTy.Contents (Elt F) arg6.view.ty) (X_arg7 : BufTy.Contents (Elt F) arg7.view.ty) (X_arg10 : BufTy.Contents (Elt F) arg10.view.ty) (G_arg11 : BufTy.Contents (Elt F) arg11.view.ty) (G_arg12 : BufTy.Contents (Elt F) arg12.view.ty) (G_arg13 : BufTy.Contents (Elt F) arg13.view.ty) (init : BitVec 32) (h : Fin 7) (n : ℕ)
    (hn : n ≤ (k0_t2_loop i).trips) :
    ((View.readAt (Elt F) arg11.view (rS h).toLoadRect (arg11.view.writes (Elt F) G_arg11 (st_k0_t2 (F := F) 𝒱 c bd i arg3 harg3 arg4 harg4 arg5 harg5 arg6 harg6 arg7 harg7 arg8 harg8 arg9 harg9 arg10 harg10 arg11 harg11 arg12 harg12 arg13 harg13 arg2 v22 v30 v38 v46 v54 v62 v70 c0_i32_25 c0_i32_26 v74 X_arg6 X_arg7 X_arg10 G_arg11 G_arg12 G_arg13 init n).2.1),
      View.readAt (Elt F) arg12.view (rS h).toLoadRect (arg12.view.writes (Elt F) G_arg12 (st_k0_t2 (F := F) 𝒱 c bd i arg3 harg3 arg4 harg4 arg5 harg5 arg6 harg6 arg7 harg7 arg8 harg8 arg9 harg9 arg10 harg10 arg11 harg11 arg12 harg12 arg13 harg13 arg2 v22 v30 v38 v46 v54 v62 v70 c0_i32_25 c0_i32_26 v74 X_arg6 X_arg7 X_arg10 G_arg11 G_arg12 G_arg13 init n).2.2.1),
      View.readAt (Elt F) arg13.view (rA h).toLoadRect (arg13.view.writes (Elt F) G_arg13 (st_k0_t2 (F := F) 𝒱 c bd i arg3 harg3 arg4 harg4 arg5 harg5 arg6 harg6 arg7 harg7 arg8 harg8 arg9 harg9 arg10 harg10 arg11 harg11 arg12 harg12 arg13 harg13 arg2 v22 v30 v38 v46 v54 v62 v70 c0_i32_25 c0_i32_26 v74 X_arg6 X_arg7 X_arg10 G_arg11 G_arg12 G_arg13 init n).2.2.2)) : HS F)
    = headAt (![v22, v30, v38, v46, v54, v62, v70] h) (tileQ (arg6.view.read (Elt F) X_arg6) h) (tileK (arg7.view.read (Elt F) X_arg7))
        (tileV (arg10.view.read (Elt F) X_arg10))
        (View.readAt (Elt F) arg11.view (rS h).toLoadRect G_arg11, View.readAt (Elt F) arg12.view (rS h).toLoadRect G_arg12,
          View.readAt (Elt F) arg13.view (rA h).toLoadRect G_arg13) n := by
  induction n with
  | zero => rfl
  | succ n ih =>
    have hlt : n < (k0_t2_loop i).trips := hn
    have hn32 : n < 32 := by have := hlt; rw [trips_t2] at this; exact this.trans (i 2).isLt
    have ih' := ih (Nat.le_of_lt hlt)
    rw [headAt, ← ih']
    have e := st_k0_t2_succ (F := F) 𝒱 c bd i arg3 harg3 arg4 harg4 arg5 harg5 arg6 harg6 arg7 harg7 arg8 harg8 arg9 harg9 arg10 harg10 arg11 harg11 arg12 harg12 arg13 harg13 arg2 v22 v30 v38 v46 v54 v62 v70 c0_i32_25 c0_i32_26 v74 X_arg6 X_arg7 X_arg10 G_arg11 G_arg12 G_arg13 init ⟨n, hlt⟩
    simp only at e
    rw [e]
    simp only [View.writes_append]
    rw [tripM, tripL, tripA]
    rw [show tK arg7 X_arg7 i ⟨n, hlt⟩ = tileK (arg7.view.read (Elt F) X_arg7) n from
        readAt_tileK arg7 X_arg7 n hn32 (off5 i ⟨n, hlt⟩) _,
      show tV arg10 X_arg10 i ⟨n, hlt⟩ = tileV (arg10.view.read (Elt F) X_arg10) n from
        readAt_tileV arg10 X_arg10 n hn32 (off6 i ⟨n, hlt⟩) _, readAt_tileQ]

end Cert.KernelIdeal.Hand

end
-- ==== Proof.K.Runs.lean ====
/- The kernel's body on the memrefs the pipeline hands it: the branch condition in closed form, the staging memrefs of a
   point, and the scratch buffers as the frame holds them. -/
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 32) — by arithmetic of the point. -/
theorem hcond0_0 : ∀ t : Fin cfg0.N, cond0_0 (grid0.coords t) ↔ t.val % 32 = 0 :=
  (fun t => by
    have ht : t.val < 1024 := Nat.lt_of_lt_of_eq t.isLt N_0
    have e0 : (grid0.coords t 0).val = t.val / 256 % 4 := Pipeline.Grid.coords_val t 0 (by decide) rfl
    have e1 : (grid0.coords t 1).val = t.val / 32 % 8 := Pipeline.Grid.coords_val t 1 (by decide) rfl
    have e2 : (grid0.coords t 2).val = t.val / 1 % 32 := Pipeline.Grid.coords_val t 2 (by decide) rfl
    simp only [cond0_0, k0_cond1, e0, e1, e2]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (t : Fin cfg0.N) : Memref sig .tc .smem S56 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x896 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8192x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8192x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x896 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S128x8192 .bf16 := Memref.whole cc0_scratch0
abbrev scM0_1 : Memref sig .tc .vmem S7x1x256 .f32 := Memref.whole cc0_scratch1
abbrev scM0_2 : Memref sig .tc .vmem S7x1x256 .f32 := Memref.whole cc0_scratch2
abbrev scM0_3 : Memref sig .tc .vmem S7x128x256 .f32 := Memref.whole cc0_scratch3
/-- The scratch `arg10` the kernel carries between points, as a view: what it holds is stated through it. -/
abbrev VS0_0 : View sig .tc .vmem S128x8192 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.K.RunA.lean ====
/- The run of the whole kernel body at a point, case A. -/
module

public import proofs.«01_k».proof.Proof.K.Runs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1288000 in
/-- The body run at a point where the value buffer is filled (the first query block of a head): the pieces the output
    block and the value buffer end with are what the run finds; they are functions of the input blocks and of what the
    value buffer held before. -/
noncomputable def kernelRunA (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (hc0 : cond0_0 i)
    (x0 : Vec F S56 .f32) (x1 : Vec F S8 .f32) (x2 : Vec F S8 .f32) (x3 : Vec F S1x256x896 .fp8e4m3) (x4 : Vec F S1x8192x128 .fp8e4m3) (x5 : Vec F S1x8192x128 .fp8e4m3) (xs0 : Vec F S128x8192 .bf16) :
    Σ' (L6 : List (View.Piece (Elt F) S1x256x896 .bf16)), { LS0 : List (View.Piece (Elt F) S128x8192 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (arg10.view.loc (c : Thread nD τ) ↦[arg10.view.set]{fullShare} arg10.view.writes (Elt F) (harg10.unread xs0) LS0) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_fp8_gqa_prefill i arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_fp8_gqa_prefill_eq_skeleton]; unfold cc0_fp8_gqa_prefill_skel
    simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists f6; iexact H6
    isplitl [HS0]; · iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Hand

end
-- ==== Proof.K.RunB.lean ====
/- The run of the whole kernel body at a point, case B. -/
module

public import proofs.«01_k».proof.Proof.K.RunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1220000 in
/-- The body run at a point where the value buffer is already filled: the pieces the output block ends with are what
    the run finds, functions of the input blocks and of the value buffer's contents. -/
noncomputable def kernelRunB (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (hc0 : ¬cond0_0 i)
    (x0 : Vec F S56 .f32) (x1 : Vec F S8 .f32) (x2 : Vec F S8 .f32) (x3 : Vec F S1x256x896 .fp8e4m3) (x4 : Vec F S1x8192x128 .fp8e4m3) (x5 : Vec F S1x8192x128 .fp8e4m3) (xs0 : Vec F S128x8192 .bf16) :
    { L6 : List (View.Piece (Elt F) S1x256x896 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_fp8_gqa_prefill i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_fp8_gqa_prefill_eq_skeleton]; unfold cc0_fp8_gqa_prefill_skel
    simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists f6; iexact H6
    isplitl [HS0]
    · iexists _; isplitr; · ipureintro; exact harg10.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Hand

end
-- ==== Proof.K.Body.lean ====
/- The output block of one grid point: each head's finished loop, divided by its denominator and scaled. -/
module

public import proofs.«01_k».proof.Proof.K.Loop
public import proofs.«01_k».proof.Proof.K.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The one index of a one-element box. -/
abbrev at0 : S1.Idx := fun a => ⟨0, by revert a; decide⟩

/-- Head `h`'s score scale, as the body loads and multiplies it. -/
def scaleAt (i : grid0.Coords) (arg3 : Memref sig .tc .smem S56 .f32) (harg3 : arg3.IsWhole) (arg4 : Memref sig .tc .smem S8 .f32) (harg4 : arg4.IsWhole)
    (x0 : Vec F S56 .f32) (x1 : Vec F S8 .f32) (h : Fin 7) : F .f32 :=
  k0_pay117
    (View.readAt (Elt F) arg3.view (Rect.unit (s := S56) (k0_off3 i (BitVec.ofNat 32 h.val)) S1.size (k0_off3_inb i h)).toLoadRect (harg3.unread x0) at0)
    (View.readAt (Elt F) arg4.view (Rect.unit (s := S8) (k0_off4 i) S1.size (k0_off4_inb i)).toLoadRect (harg4.unread x1) at0)
/-- The output scale, as the body loads it. -/
def outScaleAt (i : grid0.Coords) (arg5 : Memref sig .tc .smem S8 .f32) (harg5 : arg5.IsWhole) (x2 : Vec F S8 .f32) : F .f32 :=
  View.readAt (Elt F) arg5.view (Rect.unit (s := S8) (k0_off4 i) S1.size (k0_off4_inb i)).toLoadRect (harg5.unread x2) at0

/-- What the scratch buffers are cleared to: running maxima at the mask value, -/
def I1 : List (View.Piece (Elt F) S7x1x256 .f32) := [⟨Rect.unit (s := S7x1x256) ![0, 0, 0] S7x1x256.size (by decide), k0_pay114⟩]
/-- denominators at zero, -/
def I2 : List (View.Piece (Elt F) S7x1x256 .f32) := [⟨Rect.unit (s := S7x1x256) ![0, 0, 0] S7x1x256.size (by decide), k0_pay115⟩]
/-- numerators at zero. -/
def I3 : List (View.Piece (Elt F) S7x128x256 .f32) := [⟨Rect.unit (s := S7x128x256) ![0, 0, 0] S7x128x256.size (by decide), k0_pay116⟩]
/-- The two loops' bounds. -/
abbrev V74 (i : grid0.Coords) : BitVec 32 :=
  Scalar.muli (Scalar.divsi (Scalar.subi (BitVec.ofNat 32 (i 2).val) 0#32) 1#32) 1#32
@[inherit_doc V74]
abbrev V75 (i : grid0.Coords) : BitVec 32 := Scalar.addi (0#32) (V74 i)

/-- What the main loop writes to the three scratch buffers, -/
abbrev bodyT2 (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole)  (x0 : Vec F S56 .f32) (x1 : Vec F S8 .f32) (x2 : Vec F S8 .f32) (x3 : Vec F S1x256x896 .fp8e4m3) (x4 : Vec F S1x8192x128 .fp8e4m3) (X10 : BufTy.Contents (Elt F) arg10.view.ty) :=
  st_k0_t2 (F := F) Variants.none c none i arg3 harg3 arg4 harg4 arg5 harg5 arg6 harg6 arg7 harg7 arg8 harg8 arg9 harg9 arg10 harg10 arg11 harg11 arg12 harg12 arg13 harg13 (BitVec.ofNat 32 (i 2).val) (scaleAt i arg3 harg3 arg4 harg4 x0 x1 0) (scaleAt i arg3 harg3 arg4 harg4 x0 x1 1) (scaleAt i arg3 harg3 arg4 harg4 x0 x1 2) (scaleAt i arg3 harg3 arg4 harg4 x0 x1 3) (scaleAt i arg3 harg3 arg4 harg4 x0 x1 4) (scaleAt i arg3 harg3 arg4 harg4 x0 x1 5) (scaleAt i arg3 harg3 arg4 harg4 x0 x1 6) (0#32) (0#32) (V74 i) (harg6.unread x3) (harg7.unread x4) X10 (arg11.view.writes (Elt F) arg11.view.junk I1) (arg12.view.writes (Elt F) arg12.view.junk I2) (arg13.view.writes (Elt F) arg13.view.junk I3) (0#32) (Scf.trips (k0_t2_loop i).lb (k0_t2_loop i).ub (k0_t2_loop i).st)
/-- and the remainder loop. -/
abbrev bodyT3 (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole)  (x0 : Vec F S56 .f32) (x1 : Vec F S8 .f32) (x2 : Vec F S8 .f32) (x3 : Vec F S1x256x896 .fp8e4m3) (x4 : Vec F S1x8192x128 .fp8e4m3) (X10 : BufTy.Contents (Elt F) arg10.view.ty) :=
  st_k0_t3 (F := F) Variants.none c none i arg3 harg3 arg4 harg4 arg5 harg5 arg6 harg6 arg7 harg7 arg8 harg8 arg9 harg9 arg10 harg10 arg11 harg11 arg12 harg12 arg13 harg13 (BitVec.ofNat 32 (i 2).val) (scaleAt i arg3 harg3 arg4 harg4 x0 x1 0) (scaleAt i arg3 harg3 arg4 harg4 x0 x1 1) (scaleAt i arg3 harg3 arg4 harg4 x0 x1 2) (scaleAt i arg3 harg3 arg4 harg4 x0 x1 3) (scaleAt i arg3 harg3 arg4 harg4 x0 x1 4) (scaleAt i arg3 harg3 arg4 harg4 x0 x1 5) (scaleAt i arg3 harg3 arg4 harg4 x0 x1 6) (0#32) (0#32) (V74 i) (V75 i) (harg6.unread x3) (harg7.unread x4) X10 (arg11.view.writes (Elt F) arg11.view.junk ((bodyT2 c i arg3 harg3 arg4 harg4 arg5 harg5 arg6 harg6 arg7 harg7 arg8 harg8 arg9 harg9 arg10 harg10 arg11 harg11 arg12 harg12 arg13 harg13 x0 x1 x2 x3 x4 X10).2.1 ++ I1)) (arg12.view.writes (Elt F) arg12.view.junk ((bodyT2 c i arg3 harg3 arg4 harg4 arg5 harg5 arg6 harg6 arg7 harg7 arg8 harg8 arg9 harg9 arg10 harg10 arg11 harg11 arg12 harg12 arg13 harg13 x0 x1 x2 x3 x4 X10).2.2.1 ++ I2)) (arg13.view.writes (Elt F) arg13.view.junk ((bodyT2 c i arg3 harg3 arg4 harg4 arg5 harg5 arg6 harg6 arg7 harg7 arg8 harg8 arg9 harg9 arg10 harg10 arg11 harg11 arg12 harg12 arg13 harg13 x0 x1 x2 x3 x4 X10).2.2.2 ++ I3)) (bodyT2 c i arg3 harg3 arg4 harg4 arg5 harg5 arg6 harg6 arg7 harg7 arg8 harg8 arg9 harg9 arg10 harg10 arg11 harg11 arg12 harg12 arg13 harg13 x0 x1 x2 x3 x4 X10).1 (Scf.trips (k0_t3_loop i).lb (k0_t3_loop i).ub (k0_t3_loop i).st)

/-- The pieces of the running maxima after both loops, -/
abbrev B1 (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole)  (x0 : Vec F S56 .f32) (x1 : Vec F S8 .f32) (x2 : Vec F S8 .f32) (x3 : Vec F S1x256x896 .fp8e4m3) (x4 : Vec F S1x8192x128 .fp8e4m3) (X10 : BufTy.Contents (Elt F) arg10.view.ty) : List (View.Piece (Elt F) S7x1x256 .f32) :=
  (bodyT3 c i arg3 harg3 arg4 harg4 arg5 harg5 arg6 harg6 arg7 harg7 arg8 harg8 arg9 harg9 arg10 harg10 arg11 harg11 arg12 harg12 arg13 harg13 x0 x1 x2 x3 x4 X10).2.1 ++ ((bodyT2 c i arg3 harg3 arg4 harg4 arg5 harg5 arg6 harg6 arg7 harg7 arg8 harg8 arg9 harg9 arg10 harg10 arg11 harg11 arg12 harg12 arg13 harg13 x0 x1 x2 x3 x4 X10).2.1 ++ I1)
/-- of the denominators, -/
abbrev B2 (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole)  (x0 : Vec F S56 .f32) (x1 : Vec F S8 .f32) (x2 : Vec F S8 .f32) (x3 : Vec F S1x256x896 .fp8e4m3) (x4 : Vec F S1x8192x128 .fp8e4m3) (X10 : BufTy.Contents (Elt F) arg10.view.ty) : List (View.Piece (Elt F) S7x1x256 .f32) :=
  (bodyT3 c i arg3 harg3 arg4 harg4 arg5 harg5 arg6 harg6 arg7 harg7 arg8 harg8 arg9 harg9 arg10 harg10 arg11 harg11 arg12 harg12 arg13 harg13 x0 x1 x2 x3 x4 X10).2.2.1 ++ ((bodyT2 c i arg3 harg3 arg4 harg4 arg5 harg5 arg6 harg6 arg7 harg7 arg8 harg8 arg9 harg9 arg10 harg10 arg11 harg11 arg12 harg12 arg13 harg13 x0 x1 x2 x3 x4 X10).2.2.1 ++ I2)
/-- of the numerators. -/
abbrev B3 (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole)  (x0 : Vec F S56 .f32) (x1 : Vec F S8 .f32) (x2 : Vec F S8 .f32) (x3 : Vec F S1x256x896 .fp8e4m3) (x4 : Vec F S1x8192x128 .fp8e4m3) (X10 : BufTy.Contents (Elt F) arg10.view.ty) : List (View.Piece (Elt F) S7x128x256 .f32) :=
  (bodyT3 c i arg3 harg3 arg4 harg4 arg5 harg5 arg6 harg6 arg7 harg7 arg8 harg8 arg9 harg9 arg10 harg10 arg11 harg11 arg12 harg12 arg13 harg13 x0 x1 x2 x3 x4 X10).2.2.2 ++ ((bodyT2 c i arg3 harg3 arg4 harg4 arg5 harg5 arg6 harg6 arg7 harg7 arg8 harg8 arg9 harg9 arg10 harg10 arg11 harg11 arg12 harg12 arg13 harg13 x0 x1 x2 x3 x4 X10).2.2.2 ++ I3)

/-- Head number `n`. -/
abbrev hd (n : ℕ) : Fin 7 := ⟨n % 7, Nat.mod_lt _ (by decide)⟩

/-- The heads' boxes written one after another over `B`, head `n`'s value computed from what its box held. -/
def pushN {Val : EltTy → Type} {s : Shape} {e : EltTy} (R : Fin 7 → Rect s)
    (f : ∀ h, List (View.Piece Val s e) → (R h).shape.Idx → Val e) (B : List (View.Piece Val s e)) : ℕ → List (View.Piece Val s e)
  | 0 => B
  | n + 1 => ⟨R (hd n), f (hd n) (pushN R f B n)⟩ :: pushN R f B n

section push
variable {Val : EltTy → Type} {s : Shape} {e : EltTy} [∀ e, Nonempty (Val e)] {sig : RefSig} {κ : Kind} {sp : Space}
    (v : View sig κ sp s e) (R : Fin 7 → Rect s) (hdj : ∀ a b : Fin 7, a ≠ b → LoadRect.disj (R a) (R b).toLoadRect = true)
    (f : ∀ h, List (View.Piece Val s e) → (R h).shape.Idx → Val e) (B : List (View.Piece Val s e))

include hdj in
/-- A head not yet written still reads what lay there. -/
theorem pushN_before (h : Fin 7) (n : ℕ) (hn : n ≤ h.val) :
    v.readCov (pushN R f B n) (R h).toLoadRect = v.readCov B (R h).toLoadRect := by
  induction n with
  | zero => rfl
  | succ n ih =>
    rw [pushN, View.readCov_skip v _ _ _ _ (hdj _ _ ?_), ih (by omega)]
    intro e
    have e' := congrArg Fin.val e
    have := h.isLt
    simp only at e'
    omega

include hdj in
/-- After all seven a head reads what was computed for it. -/
theorem pushN_after (h : Fin 7) (n : ℕ) (hn : h.val < n) (hn7 : n ≤ 7) :
    v.readCov (pushN R f B n) (R h).toLoadRect = f h (pushN R f B h.val) := by
  induction n with
  | zero => omega
  | succ n ih =>
    rw [pushN]
    by_cases e : n = h.val
    · subst e
      have e2 : hd h.val = h := Fin.ext (Nat.mod_eq_of_lt h.isLt)
      rw [e2]
      exact View.readCov_cons_toLoadRect v _ _ _
    · rw [View.readCov_skip v _ _ _ _ (hdj _ _ ?_), ih (by omega) (by omega)]
      intro e3
      have e' := congrArg Fin.val e3
      have := h.isLt
      simp only at e'
      omega
end push

/-- A head's key tile on the diagonal, -/
abbrev dK (i : grid0.Coords) (arg7 : Memref sig .tc .vmem S1x8192x128 .fp8e4m3) (X : BufTy.Contents (Elt F) arg7.view.ty) : Vec F S1x256x128 .fp8e4m3 :=
  View.readAt (Elt F) arg7.view (Rect.unit (s := S1x8192x128) (k0_off9 i) S1x256x128.size (k0_off9_inb i)).toLoadRect X
/-- and value tile. -/
abbrev dV (i : grid0.Coords) (arg10 : Memref sig .tc .vmem S128x8192 .bf16) (X : BufTy.Contents (Elt F) arg10.view.ty) : Vec F S128x256 .bf16 :=
  View.readAt (Elt F) arg10.view (Rect.unit (s := S128x8192) (k0_off10 i) S128x256.size (k0_off10_inb i)).toLoadRect X

/-- The pieces of the running maxima once `n` heads have taken the diagonal step, -/
abbrev P1 (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole)  (x0 : Vec F S56 .f32) (x1 : Vec F S8 .f32) (x2 : Vec F S8 .f32) (x3 : Vec F S1x256x896 .fp8e4m3) (x4 : Vec F S1x8192x128 .fp8e4m3) (X10 : BufTy.Contents (Elt F) arg10.view.ty) : ℕ → List (View.Piece (Elt F) S7x1x256 .f32) :=
  pushN rS (fun h L => maskM (scaleAt i arg3 harg3 arg4 harg4 x0 x1 h) (dK i arg7 (harg7.unread x4)) (tQ arg6 (harg6.unread x3) h) (arg11.view.readCov L (rS h).toLoadRect)) (B1 c i arg3 harg3 arg4 harg4 arg5 harg5 arg6 harg6 arg7 harg7 arg8 harg8 arg9 harg9 arg10 harg10 arg11 harg11 arg12 harg12 arg13 harg13 x0 x1 x2 x3 x4 X10)
/-- of the denominators, -/
abbrev P2 (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole)  (x0 : Vec F S56 .f32) (x1 : Vec F S8 .f32) (x2 : Vec F S8 .f32) (x3 : Vec F S1x256x896 .fp8e4m3) (x4 : Vec F S1x8192x128 .fp8e4m3) (X10 : BufTy.Contents (Elt F) arg10.view.ty) : ℕ → List (View.Piece (Elt F) S7x1x256 .f32) :=
  pushN rS (fun h L => maskL (scaleAt i arg3 harg3 arg4 harg4 x0 x1 h) (dK i arg7 (harg7.unread x4)) (tQ arg6 (harg6.unread x3) h)
    (arg11.view.readCov (P1 c i arg3 harg3 arg4 harg4 arg5 harg5 arg6 harg6 arg7 harg7 arg8 harg8 arg9 harg9 arg10 harg10 arg11 harg11 arg12 harg12 arg13 harg13 x0 x1 x2 x3 x4 X10 h.val) (rS h).toLoadRect) (arg12.view.readCov L (rS h).toLoadRect)) (B2 c i arg3 harg3 arg4 harg4 arg5 harg5 arg6 harg6 arg7 harg7 arg8 harg8 arg9 harg9 arg10 harg10 arg11 harg11 arg12 harg12 arg13 harg13 x0 x1 x2 x3 x4 X10)
/-- of the numerators. -/
abbrev P3 (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole)  (x0 : Vec F S56 .f32) (x1 : Vec F S8 .f32) (x2 : Vec F S8 .f32) (x3 : Vec F S1x256x896 .fp8e4m3) (x4 : Vec F S1x8192x128 .fp8e4m3) (X10 : BufTy.Contents (Elt F) arg10.view.ty) : ℕ → List (View.Piece (Elt F) S7x128x256 .f32) :=
  pushN rA (fun h L => maskA (scaleAt i arg3 harg3 arg4 harg4 x0 x1 h) (dK i arg7 (harg7.unread x4)) (tQ arg6 (harg6.unread x3) h) (dV i arg10 X10)
    (arg11.view.readCov (P1 c i arg3 harg3 arg4 harg4 arg5 harg5 arg6 harg6 arg7 harg7 arg8 harg8 arg9 harg9 arg10 harg10 arg11 harg11 arg12 harg12 arg13 harg13 x0 x1 x2 x3 x4 X10 h.val) (rS h).toLoadRect) (arg13.view.readCov L (rA h).toLoadRect)) (B3 c i arg3 harg3 arg4 harg4 arg5 harg5 arg6 harg6 arg7 harg7 arg8 harg8 arg9 harg9 arg10 harg10 arg11 harg11 arg12 harg12 arg13 harg13 x0 x1 x2 x3 x4 X10)

/-- The output block's pieces. -/
abbrev bodyL6 (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole)  (x0 : Vec F S56 .f32) (x1 : Vec F S8 .f32) (x2 : Vec F S8 .f32) (x3 : Vec F S1x256x896 .fp8e4m3) (x4 : Vec F S1x8192x128 .fp8e4m3) (X10 : BufTy.Contents (Elt F) arg10.view.ty) : List (View.Piece (Elt F) S1x256x896 .bf16) :=
  seven rQ (fun h => k0_pay2 (arg13.view.readCov (P3 c i arg3 harg3 arg4 harg4 arg5 harg5 arg6 harg6 arg7 harg7 arg8 harg8 arg9 harg9 arg10 harg10 arg11 harg11 arg12 harg12 arg13 harg13 x0 x1 x2 x3 x4 X10 7) (rA h).toLoadRect) (outScaleAt i arg5 harg5 x2) (arg12.view.readCov (P2 c i arg3 harg3 arg4 harg4 arg5 harg5 arg6 harg6 arg7 harg7 arg8 harg8 arg9 harg9 arg10 harg10 arg11 harg11 arg12 harg12 arg13 harg13 x0 x1 x2 x3 x4 X10 7) (rS h).toLoadRect)) []

set_option maxHeartbeats 2000000 in
/-- Those are the pieces the run finds where the value buffer is already filled, -/
theorem runB_L6 (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (hc0 : ¬cond0_0 i)
    (x0 : Vec F S56 .f32) (x1 : Vec F S8 .f32) (x2 : Vec F S8 .f32) (x3 : Vec F S1x256x896 .fp8e4m3) (x4 : Vec F S1x8192x128 .fp8e4m3) (x5 : Vec F S1x8192x128 .fp8e4m3) (xs0 : Vec F S128x8192 .bf16) :
    (kernelRunB c i arg3 harg3 arg4 harg4 arg5 harg5 arg6 harg6 arg7 harg7 arg8 harg8 arg9 harg9 arg10 harg10 arg11 harg11 arg12 harg12 arg13 harg13 hc0 x0 x1 x2 x3 x4 x5 xs0).1 = bodyL6 c i arg3 harg3 arg4 harg4 arg5 harg5 arg6 harg6 arg7 harg7 arg8 harg8 arg9 harg9 arg10 harg10 arg11 harg11 arg12 harg12 arg13 harg13 x0 x1 x2 x3 x4 (harg10.unread xs0) := by
  unfold kernelRunB
  rfl

set_option maxHeartbeats 2000000 in
/-- and where it is filled first. -/
theorem runA_L6 (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (hc0 : cond0_0 i)
    (x0 : Vec F S56 .f32) (x1 : Vec F S8 .f32) (x2 : Vec F S8 .f32) (x3 : Vec F S1x256x896 .fp8e4m3) (x4 : Vec F S1x8192x128 .fp8e4m3) (x5 : Vec F S1x8192x128 .fp8e4m3) (xs0 : Vec F S128x8192 .bf16) :
    (kernelRunA c i arg3 harg3 arg4 harg4 arg5 harg5 arg6 harg6 arg7 harg7 arg8 harg8 arg9 harg9 arg10 harg10 arg11 harg11 arg12 harg12 arg13 harg13 hc0 x0 x1 x2 x3 x4 x5 xs0).1 = bodyL6 c i arg3 harg3 arg4 harg4 arg5 harg5 arg6 harg6 arg7 harg7 arg8 harg8 arg9 harg9 arg10 harg10 arg11 harg11 arg12 harg12 arg13 harg13 x0 x1 x2 x3 x4 (arg10.view.writes (Elt F) (harg10.unread xs0) (kernelRunA c i arg3 harg3 arg4 harg4 arg5 harg5 arg6 harg6 arg7 harg7 arg8 harg8 arg9 harg9 arg10 harg10 arg11 harg11 arg12 harg12 arg13 harg13 hc0 x0 x1 x2 x3 x4 x5 xs0).2.1) := by
  unfold kernelRunA
  rfl

end Cert.KernelIdeal.Hand

end
-- ==== Proof.K.Out.lean ====
/- The output block and the value buffer of one grid point, as functions of the point's input blocks. -/
module

public import proofs.«01_k».proof.Proof.K.Body
public import Idealize.ShloMosaic.Lib.VecWindow
public import Idealize.ShloMosaic.Lib.WritesUnit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The buffers before the loop -/

/-- What each head starts from: the mask value, zero, zero. -/
def initHS : HS F := (fun _ => Named.named κ "mask" 0xF149F2CA#32, fun _ => Scalar.ofBits .f32 0x00000000#32, fun _ => Scalar.ofBits .f32 0x00000000#32)

theorem init1 (arg11 : Memref sig .tc .vmem S7x1x256 .f32) (h : Fin 7) :
    View.readAt (Elt F) arg11.view (rS h).toLoadRect (arg11.view.writes (Elt F) arg11.view.junk I1) = (initHS (F := F)).1 := by
  funext j
  rw [View.readAt_apply, I1, View.read_writes_full]
  rfl
theorem init2 (arg12 : Memref sig .tc .vmem S7x1x256 .f32) (h : Fin 7) :
    View.readAt (Elt F) arg12.view (rS h).toLoadRect (arg12.view.writes (Elt F) arg12.view.junk I2) = (initHS (F := F)).2.1 := by
  funext j
  rw [View.readAt_apply, I2, View.read_writes_full]
  rfl
theorem init3 (arg13 : Memref sig .tc .vmem S7x128x256 .f32) (h : Fin 7) :
    View.readAt (Elt F) arg13.view (rA h).toLoadRect (arg13.view.writes (Elt F) arg13.view.junk I3) = (initHS (F := F)).2.2 := by
  funext j
  rw [View.readAt_apply, I3, View.read_writes_full]
  rfl

/-- The score scale of head `h` of key head `g`: `q_scale`'s entry by `k_scale`'s. -/
def scale (x0 : Vec F S56 .f32) (x1 : Vec F S8 .f32) (g : Fin 8) (h : Fin 7) : F .f32 :=
  k0_pay117 (x0 (ix1 ⟨7 * g.val + h.val, by have := g.isLt; have := h.isLt; omega⟩)) (x1 (ix1 g))

theorem off3 (i : grid0.Coords) (h : Fin 7) : k0_off3 i (BitVec.ofNat 32 h.val) = ![7 * (i 1).val + h.val] := by
  have e : ∀ (g : Fin 8) (h : Fin 7), (Scalar.indexCast (Scalar.addi (Scalar.muli (BitVec.ofNat 32 g.val) 7#32) (BitVec.ofNat 32 h.val))).toNat = 7 * g.val + h.val := by decide
  show (![_] : Fin 1 → ℕ) = _
  rw [← e (i 1) h]
theorem off4 (i : grid0.Coords) : k0_off4 i = ![(i 1).val] := by
  have e : ∀ (g : Fin 8), (Scalar.indexCast (BitVec.ofNat 32 g.val)).toNat = g.val := by decide
  exact congrArg (fun x : ℕ => ![x]) (e (i 1))

/-- A load of one scalar reads the entry at its offset. -/
theorem readAt_one {n : ℕ} (arg : Memref sig .tc .smem ⟨1, ![n]⟩ .f32) (X : BufTy.Contents (Elt F) arg.view.ty) {off : Fin 1 → ℕ} (a : ℕ) (ha : a < n)
    (ho : off = ![a]) (inb : ∀ b, off b + S1.size b ≤ (⟨1, ![n]⟩ : Shape).size b) :
    View.readAt (Elt F) arg.view (Rect.unit (s := ⟨1, ![n]⟩) off S1.size inb).toLoadRect X at0 = arg.view.read (Elt F) X (ix1 ⟨a, ha⟩) := by
  subst ho
  show arg.view.read (Elt F) X _ = _
  congr 1
  funext b
  apply Fin.ext
  rw [Rect.idx_unit_val]
  fin_cases b
  rfl

theorem scaleAt_eq (i : grid0.Coords) (arg3 : Memref sig .tc .smem S56 .f32) (harg3 : arg3.IsWhole) (arg4 : Memref sig .tc .smem S8 .f32) (harg4 : arg4.IsWhole)
    (x0 : Vec F S56 .f32) (x1 : Vec F S8 .f32) (h : Fin 7) : scaleAt i arg3 harg3 arg4 harg4 x0 x1 h = scale x0 x1 (i 1) h := by
  unfold scaleAt scale
  rw [readAt_one (n := 56) arg3 _ (7 * (i 1).val + h.val) (by have : (i 1).val < 8 := (i 1).isLt; have := h.isLt; omega) (off3 i h),
    readAt_one (n := 8) arg4 _ (i 1).val (i 1).isLt (off4 i), harg3.read_unread, harg4.read_unread]
  rfl
theorem outScaleAt_eq (i : grid0.Coords) (arg5 : Memref sig .tc .smem S8 .f32) (harg5 : arg5.IsWhole) (x2 : Vec F S8 .f32) :
    outScaleAt i arg5 harg5 x2 = x2 (ix1 (i 1)) := by
  unfold outScaleAt
  rw [readAt_one (n := 8) arg5 _ (i 1).val (i 1).isLt (off4 i), harg5.read_unread]
  rfl

/-! ## The output block -/

/-- A head's finished state at query block `n`: `n` unmasked steps, then the masked one on the diagonal. -/
def headEnd (s : F .f32) (q : Vec F S1x256x128 .fp8e4m3) (K : ℕ → Vec F S1x256x128 .fp8e4m3) (V : ℕ → Vec F S128x256 .bf16) (n : ℕ) :
    Vec F S1x128x256 .f32 × Vec F S1x1x256 .f32 :=
  let p := headAt s q K V initHS n
  (maskA s (K n) q (V n) p.1 p.2.2, maskL s (K n) q p.1 p.2.1)

/-- Head `h`'s columns of the output block. -/
def headOut (s : F .f32) (vs : F .f32) (q : Vec F S1x256x128 .fp8e4m3) (K : ℕ → Vec F S1x256x128 .fp8e4m3) (V : ℕ → Vec F S128x256 .bf16) (n : ℕ) :
    Vec F S1x256x128 .bf16 :=
  let p := headEnd s q K V n
  k0_pay2 p.1 vs p.2

/-- The output block: column `128 h + d` is column `d` of head `h`. -/
def outBlk (x0 : Vec F S56 .f32) (x1 x2 : Vec F S8 .f32) (x3 : Vec F S1x256x896 .fp8e4m3) (x4 : Vec F S1x8192x128 .fp8e4m3) (vt : Vec F S128x8192 .bf16)
    (g : Fin 8) (n : ℕ) : Vec F S1x256x896 .bf16 := fun j =>
  let h : Fin 7 := ⟨(j 2).val / 128, by have : (j 2).val < 896 := (j 2).isLt; omega⟩
  headOut (scale x0 x1 g h) (x2 (ix1 g)) (tileQ x3 h) (tileK x4) (tileV vt) n (ix3 (j 0) (j 1) ⟨(j 2).val % 128, Nat.mod_lt _ (by decide)⟩)

/-- After the loops each head's boxes hold its `n` unmasked steps. -/
theorem base_heads (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole)  (x0 : Vec F S56 .f32) (x1 : Vec F S8 .f32) (x2 : Vec F S8 .f32) (x3 : Vec F S1x256x896 .fp8e4m3) (x4 : Vec F S1x8192x128 .fp8e4m3) (X10 : BufTy.Contents (Elt F) arg10.view.ty) (h : Fin 7) :
    ((arg11.view.readCov (B1 c i arg3 harg3 arg4 harg4 arg5 harg5 arg6 harg6 arg7 harg7 arg8 harg8 arg9 harg9 arg10 harg10 arg11 harg11 arg12 harg12 arg13 harg13 x0 x1 x2 x3 x4 X10) (rS h).toLoadRect, arg12.view.readCov (B2 c i arg3 harg3 arg4 harg4 arg5 harg5 arg6 harg6 arg7 harg7 arg8 harg8 arg9 harg9 arg10 harg10 arg11 harg11 arg12 harg12 arg13 harg13 x0 x1 x2 x3 x4 X10) (rS h).toLoadRect,
      arg13.view.readCov (B3 c i arg3 harg3 arg4 harg4 arg5 harg5 arg6 harg6 arg7 harg7 arg8 harg8 arg9 harg9 arg10 harg10 arg11 harg11 arg12 harg12 arg13 harg13 x0 x1 x2 x3 x4 X10) (rA h).toLoadRect) : HS F)
    = headAt (scaleAt i arg3 harg3 arg4 harg4 x0 x1 h) (tileQ x3 h) (tileK x4) (tileV (arg10.view.read (Elt F) X10)) initHS (i 2).val := by
  have e3 : bodyT3 c i arg3 harg3 arg4 harg4 arg5 harg5 arg6 harg6 arg7 harg7 arg8 harg8 arg9 harg9 arg10 harg10 arg11 harg11 arg12 harg12 arg13 harg13 x0 x1 x2 x3 x4 X10 = ((bodyT2 c i arg3 harg3 arg4 harg4 arg5 harg5 arg6 harg6 arg7 harg7 arg8 harg8 arg9 harg9 arg10 harg10 arg11 harg11 arg12 harg12 arg13 harg13 x0 x1 x2 x3 x4 X10).1, [], [], []) := by
    show st_k0_t3 (F := F) _ _ _ _ _ _ _ _ _ _ _ _ _ _ _ _ _ _ _ _ _ _ _ _ _ _ _ _ _ _ _ _ _ _ _ _ _ _ _ _ _ _ _ _ _ (k0_t3_loop i).trips = _
    rw [trips_t3]
    rfl
  have hl := loop_heads (F := F) Variants.none c none i arg3 harg3 arg4 harg4 arg5 harg5 arg6 harg6 arg7 harg7 arg8 harg8 arg9 harg9 arg10 harg10 arg11 harg11 arg12 harg12 arg13 harg13 (BitVec.ofNat 32 (i 2).val) (scaleAt i arg3 harg3 arg4 harg4 x0 x1 0) (scaleAt i arg3 harg3 arg4 harg4 x0 x1 1) (scaleAt i arg3 harg3 arg4 harg4 x0 x1 2) (scaleAt i arg3 harg3 arg4 harg4 x0 x1 3) (scaleAt i arg3 harg3 arg4 harg4 x0 x1 4) (scaleAt i arg3 harg3 arg4 harg4 x0 x1 5) (scaleAt i arg3 harg3 arg4 harg4 x0 x1 6) (0#32) (0#32) (V74 i) (harg6.unread x3) (harg7.unread x4) X10 (arg11.view.writes (Elt F) arg11.view.junk I1) (arg12.view.writes (Elt F) arg12.view.junk I2) (arg13.view.writes (Elt F) arg13.view.junk I3) (0#32) h (k0_t2_loop i).trips le_rfl
  rw [init1, init2, init3, harg6.read_unread, harg7.read_unread] at hl
  unfold B1 B2 B3
  rw [e3]
  unfold View.readCov
  simp only [List.nil_append, View.writes_append]
  refine hl.trans ?_
  rw [trips_t2]
  congr 1
  fin_cases h <;> rfl

theorem rQ_disj : ∀ a b : Fin 7, a ≠ b → LoadRect.disj (rQ a) (rQ b).toLoadRect = true := by decide

/-- The output pieces' values. -/
theorem head_piece (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole)  (x0 : Vec F S56 .f32) (x1 : Vec F S8 .f32) (x2 : Vec F S8 .f32) (x3 : Vec F S1x256x896 .fp8e4m3) (x4 : Vec F S1x8192x128 .fp8e4m3) (X10 : BufTy.Contents (Elt F) arg10.view.ty) (h : Fin 7) :
    k0_pay2 (arg13.view.readCov (P3 c i arg3 harg3 arg4 harg4 arg5 harg5 arg6 harg6 arg7 harg7 arg8 harg8 arg9 harg9 arg10 harg10 arg11 harg11 arg12 harg12 arg13 harg13 x0 x1 x2 x3 x4 X10 7) (rA h).toLoadRect) (outScaleAt i arg5 harg5 x2) (arg12.view.readCov (P2 c i arg3 harg3 arg4 harg4 arg5 harg5 arg6 harg6 arg7 harg7 arg8 harg8 arg9 harg9 arg10 harg10 arg11 harg11 arg12 harg12 arg13 harg13 x0 x1 x2 x3 x4 X10 7) (rS h).toLoadRect)
    = headOut (scale x0 x1 (i 1) h) (x2 (ix1 (i 1))) (tileQ x3 h) (tileK x4) (tileV (arg10.view.read (Elt F) X10)) (i 2).val := by
  have hb := base_heads c i arg3 harg3 arg4 harg4 arg5 harg5 arg6 harg6 arg7 harg7 arg8 harg8 arg9 harg9 arg10 harg10 arg11 harg11 arg12 harg12 arg13 harg13 x0 x1 x2 x3 x4 X10 h
  rw [Prod.mk.injEq, Prod.mk.injEq] at hb
  obtain ⟨b1, b2, b3⟩ := hb
  have hn : (i 2).val < 32 := (i 2).isLt
  have hk : dK i arg7 (harg7.unread x4) = tileK x4 (i 2).val := by
    rw [show dK i arg7 (harg7.unread x4) = tileK (arg7.view.read (Elt F) (harg7.unread x4)) (i 2).val from readAt_tileK arg7 _ _ hn (off9 i) _, harg7.read_unread]
  have hv : dV i arg10 X10 = tileV (arg10.view.read (Elt F) X10) (i 2).val := readAt_tileV arg10 _ _ hn (off10 i) _
  rw [P3, P2, pushN_after _ _ rA_disj _ _ h 7 h.isLt le_rfl, pushN_after _ _ rS_disj _ _ h 7 h.isLt le_rfl]
  rw [pushN_before _ _ rA_disj _ _ h h.val le_rfl, pushN_before _ _ rS_disj _ _ h h.val le_rfl, P1,
    pushN_before _ _ rS_disj _ _ h h.val le_rfl, b1, b2, b3, hk, hv, readAt_tileQ, harg6.read_unread, outScaleAt_eq, scaleAt_eq]
  rfl

/-- The output block the pieces make. -/
theorem read_L6 (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole)  (x0 : Vec F S56 .f32) (x1 : Vec F S8 .f32) (x2 : Vec F S8 .f32) (x3 : Vec F S1x256x896 .fp8e4m3) (x4 : Vec F S1x8192x128 .fp8e4m3) (X10 : BufTy.Contents (Elt F) arg10.view.ty) (f : BufTy.Contents (Elt F) arg9.view.ty) :
    arg9.view.read (Elt F) (arg9.view.writes (Elt F) f (bodyL6 c i arg3 harg3 arg4 harg4 arg5 harg5 arg6 harg6 arg7 harg7 arg8 harg8 arg9 harg9 arg10 harg10 arg11 harg11 arg12 harg12 arg13 harg13 x0 x1 x2 x3 x4 X10))
      = outBlk x0 x1 x2 x3 x4 (arg10.view.read (Elt F) X10) (i 1) (i 2).val := by
  funext j
  have hj2 : (j 2).val < 896 := (j 2).isLt
  have hs := readAt_seven arg9.view f rQ rQ_disj (fun h => k0_pay2 (arg13.view.readCov (P3 c i arg3 harg3 arg4 harg4 arg5 harg5 arg6 harg6 arg7 harg7 arg8 harg8 arg9 harg9 arg10 harg10 arg11 harg11 arg12 harg12 arg13 harg13 x0 x1 x2 x3 x4 X10 7) (rA h).toLoadRect) (outScaleAt i arg5 harg5 x2) (arg12.view.readCov (P2 c i arg3 harg3 arg4 harg4 arg5 harg5 arg6 harg6 arg7 harg7 arg8 harg8 arg9 harg9 arg10 harg10 arg11 harg11 arg12 harg12 arg13 harg13 x0 x1 x2 x3 x4 X10 7) (rS h).toLoadRect)) [] ⟨(j 2).val / 128, by omega⟩
  have hx := congrFun hs (ix3 (j 0) (j 1) ⟨(j 2).val % 128, Nat.mod_lt _ (by decide)⟩)
  rw [head_piece] at hx
  rw [View.readAt_apply] at hx
  refine Eq.trans ?_ hx
  congr 1
  funext a
  apply Fin.ext
  rw [Rect.idx_unit_val]
  fin_cases a
  · show (j 0).val = 0 + (j 0).val; omega
  · show (j 1).val = 0 + (j 1).val; omega
  · show (j 2).val = 128 * ((j 2).val / 128) + (j 2).val % 128; omega

/-! ## The value buffer -/

/-- The transposed values: row `d`, column `s` is row `s`, column `d` of the value block. -/
def vtOf (x : Vec F S1x8192x128 .fp8e4m3) : Vec F S128x8192 .bf16 := fun j =>
  k0_pay113 (tileK x ((j 1).val / 256)) (ix2 (j 0) ⟨(j 1).val % 256, Nat.mod_lt _ (by decide)⟩)

theorem trips_t1 : k0_t1_loop.trips = 32 := by decide
theorem iv1 : ∀ k : Fin 32, (Scalar.indexCast (Scalar.muli (Scf.iv (0#32) (1#32) k.val) 256#32)).toNat = 256 * k.val := by decide
theorem off1 (k : Fin k0_t1_loop.trips) : k0_off1 k = ![0, 256 * k.val, 0] := by
  show (![0, _, 0] : Fin 3 → ℕ) = _
  rw [← iv1 ⟨k.val, k.isLt.trans_eq trips_t1⟩]
theorem off2 (k : Fin k0_t1_loop.trips) : k0_off2 k = ![0, 256 * k.val] := by
  show (![0, _] : Fin 2 → ℕ) = _
  rw [← iv1 ⟨k.val, k.isLt.trans_eq trips_t1⟩]

/-- One trip of the loop that fills the value buffer writes one transposed tile. -/
theorem tripV_pieces (𝒱 : Variants) (c : Dev nD) (bd : Option 𝒱.V) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (k0_h1 : k0_cond1 i = 1#1) (X_arg8 : BufTy.Contents (Elt F) arg8.view.ty) (k : Fin k0_t1_loop.trips) :
    tripL_k0_t1 (F := F) 𝒱 c bd i arg3 harg3 arg4 harg4 arg5 harg5 arg6 harg6 arg7 harg7 arg8 harg8 arg9 harg9 arg10 harg10 arg11 harg11 arg12 harg12 arg13 harg13 k0_h1 X_arg8 k
      = [⟨Rect.unit (s := S128x8192) (k0_off2 k) S128x256.size (k0_off2_inb i k k0_h1), k0_pay113 (View.readAt (Elt F) arg8.view (Rect.unit (s := S1x8192x128) (k0_off1 k) S1x256x128.size (k0_off1_inb i k k0_h1)).toLoadRect X_arg8)⟩] := by
  unfold tripL_k0_t1 trip_k0_t1
  rfl

/-- A column inside the newest tile reads that tile. -/
theorem readV_mem (v : View sig .tc .vmem S128x8192 .bf16) (f : v.ty.Contents (Elt F)) {off : Fin 2 → ℕ} (n : ℕ) (ho : off = ![0, 256 * n])
    (inb : ∀ a, off a + S128x256.size a ≤ S128x8192.size a) (w : S128x256.Idx → Elt F .bf16) (L : List (View.Piece (Elt F) S128x8192 .bf16))
    (y : S128x8192.Idx) (hy : (y 1).val / 256 = n) :
    v.read (Elt F) (v.writes (Elt F) f ((⟨Rect.unit (s := S128x8192) off S128x256.size inb, w⟩ : View.Piece (Elt F) S128x8192 .bf16) :: L)) y
      = w (ix2 (y 0) ⟨(y 1).val % 256, Nat.mod_lt _ (by decide)⟩) := by
  let x : S128x256.Idx := ix2 (y 0) ⟨(y 1).val % 256, Nat.mod_lt _ (by decide)⟩
  have hx : ∀ a, (y a).val = (![0, 256 * n] : Fin 2 → ℕ) a + (x a).val := by
    intro a
    fin_cases a
    · show (y 0).val = 0 + (y 0).val; omega
    · show (y 1).val = 256 * n + (y 1).val % 256; omega
  exact View.read_writes_cons_unit_of_mem v f inb w L y x ho hx

/-- After `n` trips the first `256 n` columns are the transposed values. -/
theorem read_fill (𝒱 : Variants) (c : Dev nD) (bd : Option 𝒱.V) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (k0_h1 : k0_cond1 i = 1#1) (X_arg8 : BufTy.Contents (Elt F) arg8.view.ty) (f : BufTy.Contents (Elt F) arg10.view.ty) (n : ℕ) (hn : n ≤ 32) (j : S128x8192.Idx) (hj : (j 1).val < 256 * n) :
    arg10.view.read (Elt F) (arg10.view.writes (Elt F) f (pb_k0_t1 (F := F) 𝒱 c bd i arg3 harg3 arg4 harg4 arg5 harg5 arg6 harg6 arg7 harg7 arg8 harg8 arg9 harg9 arg10 harg10 arg11 harg11 arg12 harg12 arg13 harg13 k0_h1 X_arg8 n)) j
      = vtOf (arg8.view.read (Elt F) X_arg8) j := by
  induction n with
  | zero => omega
  | succ n ih =>
    have e := pb_k0_t1_succ (F := F) 𝒱 c bd i arg3 harg3 arg4 harg4 arg5 harg5 arg6 harg6 arg7 harg7 arg8 harg8 arg9 harg9 arg10 harg10 arg11 harg11 arg12 harg12 arg13 harg13 k0_h1 X_arg8 ⟨n, by rw [trips_t1]; omega⟩
    simp only at e
    rw [e, tripV_pieces, List.singleton_append]
    by_cases hlt : (j 1).val < 256 * n
    · rw [View.read_writes_cons_unit_of_not_mem _ _ _ _ _ j (off2 ⟨n, _⟩) 1 (Or.inl hlt)]
      exact ih (by omega) hlt
    · have hd' : (j 1).val / 256 = n := by omega
      rw [readV_mem arg10.view f n (off2 ⟨n, _⟩) _ _ _ j hd', readAt_tileK arg8 X_arg8 n (by omega) (off1 ⟨n, _⟩), vtOf, hd']

/-- After the filling loop the value buffer holds the transposed values. -/
theorem read_vt (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (hc0 : cond0_0 i)
    (x0 : Vec F S56 .f32) (x1 : Vec F S8 .f32) (x2 : Vec F S8 .f32) (x3 : Vec F S1x256x896 .fp8e4m3) (x4 : Vec F S1x8192x128 .fp8e4m3) (x5 : Vec F S1x8192x128 .fp8e4m3) (xs0 : Vec F S128x8192 .bf16) :
    arg10.view.read (Elt F) (arg10.view.writes (Elt F) (harg10.unread xs0) (kernelRunA c i arg3 harg3 arg4 harg4 arg5 harg5 arg6 harg6 arg7 harg7 arg8 harg8 arg9 harg9 arg10 harg10 arg11 harg11 arg12 harg12 arg13 harg13 hc0 x0 x1 x2 x3 x4 x5 xs0).2.1) = vtOf x5 := by
  funext j
  have h := read_fill (F := F) Variants.none c none i arg3 harg3 arg4 harg4 arg5 harg5 arg6 harg6 arg7 harg7 arg8 harg8 arg9 harg9 arg10 harg10 arg11 harg11 arg12 harg12 arg13 harg13 hc0 (harg8.unread x5) (harg10.unread xs0) 32 le_rfl j (j 1).isLt
  rw [harg8.read_unread] at h
  exact h

/-- The output block where the value buffer is filled first, -/
theorem outA (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (hc0 : cond0_0 i)
    (x0 : Vec F S56 .f32) (x1 : Vec F S8 .f32) (x2 : Vec F S8 .f32) (x3 : Vec F S1x256x896 .fp8e4m3) (x4 : Vec F S1x8192x128 .fp8e4m3) (x5 : Vec F S1x8192x128 .fp8e4m3) (xs0 : Vec F S128x8192 .bf16) (f : BufTy.Contents (Elt F) arg9.view.ty) :
    arg9.view.read (Elt F) (arg9.view.writes (Elt F) f (kernelRunA c i arg3 harg3 arg4 harg4 arg5 harg5 arg6 harg6 arg7 harg7 arg8 harg8 arg9 harg9 arg10 harg10 arg11 harg11 arg12 harg12 arg13 harg13 hc0 x0 x1 x2 x3 x4 x5 xs0).1)
      = outBlk x0 x1 x2 x3 x4 (vtOf x5) (i 1) (i 2).val := by
  rw [runA_L6, read_L6, read_vt]

/-- and where it is already filled. -/
theorem outB (c : Dev nD) (i : grid0.Coords) (arg3 : Memref sig .tc .smem S56 .f32) (harg3 : arg3.IsWhole) (arg4 : Memref sig .tc .smem S8 .f32) (harg4 : arg4.IsWhole) (arg5 : Memref sig .tc .smem S8 .f32) (harg5 : arg5.IsWhole) (arg6 : Memref sig .tc .vmem S1x256x896 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x896 .bf16) (harg9 : arg9.IsWhole) (arg10 : Memref sig .tc .vmem S128x8192 .bf16) (harg10 : arg10.IsWhole) (arg11 : Memref sig .tc .vmem S7x1x256 .f32) (harg11 : arg11.IsWhole) (arg12 : Memref sig .tc .vmem S7x1x256 .f32) (harg12 : arg12.IsWhole) (arg13 : Memref sig .tc .vmem S7x128x256 .f32) (harg13 : arg13.IsWhole) (hc0 : ¬cond0_0 i)
    (x0 : Vec F S56 .f32) (x1 : Vec F S8 .f32) (x2 : Vec F S8 .f32) (x3 : Vec F S1x256x896 .fp8e4m3) (x4 : Vec F S1x8192x128 .fp8e4m3) (x5 : Vec F S1x8192x128 .fp8e4m3) (xs0 : Vec F S128x8192 .bf16) (f : BufTy.Contents (Elt F) arg9.view.ty) :
    arg9.view.read (Elt F) (arg9.view.writes (Elt F) f (kernelRunB c i arg3 harg3 arg4 harg4 arg5 harg5 arg6 harg6 arg7 harg7 arg8 harg8 arg9 harg9 arg10 harg10 arg11 harg11 arg12 harg12 arg13 harg13 hc0 x0 x1 x2 x3 x4 x5 xs0).1)
      = outBlk x0 x1 x2 x3 x4 xs0 (i 1) (i 2).val := by
  rw [runB_L6, read_L6, harg10.read_unread]

end Cert.KernelIdeal.Hand

end
-- ==== Proof.K.Frame.lean ====
/- The frame of the kernel over idealised floats, its output named: what the value buffer and the output block hold after
   each point, the body obligation, the run and the frame claim. -/
module

public import proofs.«01_k».proof.Proof.K.Out
public import Idealize.ShloMosaic.Lib.Claim
public import Idealize.ShloMosaic.Lib.Pipeline.ValueKit.Geometry

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the carried value buffer and the output hold after each point -/

theorem vt_idx : ∀ t : Fin grid0.N, win0_5.index t = ![(grid0.coords t 0).val, 0, (grid0.coords t 1).val] := by decide +kernel

theorem coords_prev : ∀ t : Fin grid0.N, t.val % 32 ≠ 0 →
    (grid0.coords t 0).val = (grid0.coords ⟨t.val - 1, by omega⟩ 0).val ∧ (grid0.coords t 1).val = (grid0.coords ⟨t.val - 1, by omega⟩ 1).val := by
  decide +kernel

/-- The value block of a point that does not start a sweep is the one of the point before. -/
theorem vt_prev (c : Dev nD) (t : Fin cfg0.N) (h0 : t.val % 32 ≠ 0) :
    (iblk m c 5 t : Vec F S1x8192x128 .fp8e4m3) = iblk m c 5 ⟨t.val - 1, lt_of_le_of_lt (Nat.sub_le _ _) t.isLt⟩ := by
  obtain ⟨h1, h2⟩ := coords_prev t h0
  have e : win0_5.index t = win0_5.index ⟨t.val - 1, lt_of_le_of_lt (Nat.sub_le _ _) t.isLt⟩ := by rw [vt_idx, vt_idx, h1, h2]
  funext x
  blk_simp [iblk]
  blk_ext [e]

/-- What the value buffer holds after point `n`: the value block of that point, transposed. -/
abbrev outsAt0 (c : Dev nD) (n : ℕ) (hn : n < cfg0.N) : Vec F S128x8192 .bf16 := vtOf (iblk m c 5 ⟨n, hn⟩)

/-- What the output buffer holds after point `t`. -/
abbrev outAt (c : Dev nD) (t : Fin cfg0.N) : Vec F S1x256x896 .bf16 :=
  outBlk (iblk m c 0 t) (iblk m c 1 t) (iblk m c 2 t) (iblk m c 3 t) (iblk m c 4 t) (vtOf (iblk m c 5 t)) (grid0.coords t 1) (grid0.coords t 2).val

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them; after the body at point `t` each
    input buffer at its block and the output at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point takes the invariant and the buffers from one point to the next. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 1024 := lt_of_lt_of_eq t.isLt (show cfg0.N = 1024 from N_0)
  by_cases h0 : t.val % 32 = 0
  · by_cases hz : t.val = 0
    · rw [PhiS_castSucc m c t, PhiS_zero m c _ _ hz, PhiA0_eq]
      iintro ⟨⟨⟨⟨%xs0, HS0⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) xs0).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%f6, H6⟩, HS0, HS1, HS2, HS3⟩
      isplitl [HS0 HS1 HS2 HS3 Hg]
      · isplitl [HS0 HS1 HS2 HS3]
        · isplitl [HS0]
          · unfold owns; iexists _; isplitr
            swap; · iexact HS0
            ipureintro; exact read_vt c _ _ _ _ _ _ _ _ _ _ _ _ _ _ _ _ _ _ _ _ _ _ _ _ _ _ _ _ _ _ _
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact outA c _ _ _ _ _ _ _ _ _ _ _ _ _ _ _ _ _ _ _ _ _ _ _ _ _ _ _ _ _ _ _ _
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, ⟨%f6, H6⟩, HS0, HS1, HS2, HS3⟩
      isplitl [HS0 HS1 HS2 HS3 Hg]
      · isplitl [HS0 HS1 HS2 HS3]
        · isplitl [HS0]
          · unfold owns; iexists _; isplitr
            swap; · iexact HS0
            ipureintro; exact read_vt c _ _ _ _ _ _ _ _ _ _ _ _ _ _ _ _ _ _ _ _ _ _ _ _ _ _ _ _ _ _ _
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact outA c _ _ _ _ _ _ _ _ _ _ _ _ _ _ _ _ _ _ _ _ _ _ _ _ _ _ _ _ _ _ _ _
  · have hz : t.val ≠ 0 := fun h => h0 (by rw [h])
    rw [PhiS_castSucc m c t, PhiS_pos m c _ _ hz, show outsAt0 m c (t.val - 1) (by omega) = vtOf (iblk m c 5 t) from congrArg vtOf (vt_prev m c t h0).symm]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunB c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, ⟨%f6, H6⟩, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact outB c _ _ _ _ _ _ _ _ _ _ _ _ _ _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 1024 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every weakly fair execution of @main terminates, and every final state has each array at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Hand

end
-- ==== Proof.V.Math.lean ====
/- The mathematics of the online softmax over the extended reals: the running maximum, sum and weighted sum of a growing set of
   keys, and the quotient at the end against softmax with its guarded quotient. -/
module

public import Idealize.ShloMosaic.Init
public import Idealize.ShloMosaic.Lib.Pointwise

@[expose] public section

noncomputable section

namespace Cert.Softmax

open Idealize.ShloMosaic
open scoped BigOperators

/-! ## Exponentials -/

theorem exp2_bot : Ideal.exp2 ⊥ = 0 := rfl
theorem exp2_top : Ideal.exp2 ⊤ = ⊤ := rfl
theorem exp2_coe (r : ℝ) : Ideal.exp2 (r : EReal) = ((Real.rpow 2 r : ℝ) : EReal) := rfl

/-- The base-two exponential is not negative. -/
theorem exp2_nonneg (x : EReal) : 0 ≤ Ideal.exp2 x := by
  induction x with
  | bot => exact le_rfl
  | top => exact le_top
  | coe r => rw [exp2_coe]; exact_mod_cast Real.rpow_nonneg (by norm_num) r

/-- A difference `z - m` with `z ≤ m` is never positive. -/
theorem sub_nonpos' {z m : EReal} (h : z ≤ m) : z - m ≤ 0 := by
  induction z with
  | bot => rw [EReal.bot_sub]; exact bot_le
  | top => obtain rfl : m = ⊤ := top_le_iff.mp h; rw [EReal.sub_top]; exact bot_le
  | coe r =>
    induction m with
    | bot => exact absurd h (by simp)
    | top => rw [EReal.sub_top]; exact bot_le
    | coe s => have : r ≤ s := by exact_mod_cast h
               have h' : r - s ≤ 0 := by linarith
               exact_mod_cast h'

/-- At a nonpositive exponent it is a real number between 0 and 1. -/
theorem exp2_le_one {x : EReal} (h : x ≤ 0) : Ideal.exp2 x ≤ 1 := by
  induction x with
  | bot => rw [exp2_bot]; exact zero_le_one
  | top => exact absurd h (by simp)
  | coe r =>
    rw [exp2_coe]
    have : r ≤ 0 := by exact_mod_cast h
    have := Real.rpow_le_one_of_one_le_of_nonpos (x := 2) (by norm_num) this
    exact_mod_cast this

theorem exp2_ne_top {x : EReal} (h : x ≤ 0) : Ideal.exp2 x ≠ ⊤ := fun e => by
  have := exp2_le_one h
  rw [e] at this
  exact absurd this (by decide)

/-- Moving the maximum from `m` up to `m'` rescales a weight. -/
theorem exp2_rescale {z m m' : EReal} (h : z ≤ m) (h' : m ≤ m') :
    Ideal.exp2 (z - m) * Ideal.exp2 (m - m') = Ideal.exp2 (z - m') := by
  induction z with
  | bot => rw [EReal.bot_sub, EReal.bot_sub, exp2_bot, zero_mul]
  | top =>
    obtain rfl : m = ⊤ := top_le_iff.mp h
    obtain rfl : m' = ⊤ := top_le_iff.mp h'
    rw [EReal.sub_top, exp2_bot, zero_mul]
  | coe r =>
    induction m with
    | bot => exact absurd h (by simp)
    | top =>
      obtain rfl : m' = ⊤ := top_le_iff.mp h'
      rw [EReal.sub_top, EReal.sub_top, exp2_bot, zero_mul]
    | coe s =>
      induction m' with
      | bot => exact absurd h' (by simp)
      | top => rw [EReal.sub_top, EReal.sub_top, exp2_bot, mul_zero]
      | coe t =>
        rw [← EReal.coe_sub, ← EReal.coe_sub, ← EReal.coe_sub, exp2_coe, exp2_coe, exp2_coe, ← EReal.coe_mul]
        congr 1
        show (2 : ℝ) ^ (r - s) * 2 ^ (s - t) = 2 ^ (r - t)
        rw [← Real.rpow_add (by norm_num)]; congr 1; ring

/-- The natural exponential of `x * log 2` is the base-two exponential of `x`. -/
theorem exp_mul_log_two (x : EReal) : Ideal.exp (x * (Real.log 2 : ℝ)) = Ideal.exp2 x := by
  have hl : (0 : ℝ) < Real.log 2 := Real.log_pos (by norm_num)
  induction x with
  | bot => rw [EReal.bot_mul_coe_of_pos hl]; rfl
  | top => rw [EReal.top_mul_coe_of_pos hl]; rfl
  | coe r =>
    rw [← EReal.coe_mul, exp2_coe]
    show ((Real.exp (r * Real.log 2) : ℝ) : EReal) = _
    congr 1
    show _ = (2 : ℝ) ^ r
    rw [Real.rpow_def_of_pos (by norm_num), mul_comm]

/-! ## Sums -/

/-- A nonnegative real factor distributes over a finite sum. -/
theorem sum_mul {ι : Type*} (A : Finset ι) (f : ι → EReal) {c : EReal} (h0 : 0 ≤ c) (ht : c ≠ ⊤) :
    (∑ i ∈ A, f i) * c = ∑ i ∈ A, f i * c := by
  classical
  induction A using Finset.induction_on with
  | empty => simp
  | insert a A ha ih => rw [Finset.sum_insert ha, Finset.sum_insert ha, EReal.right_distrib_of_nonneg_of_ne_top h0 ht, ih]

/-- The largest score of a set of keys, `⊥` of none. -/
def M (z : ℕ → EReal) (n : ℕ) : EReal := (Finset.range n).sup z
/-- The sum of the weights of the first `n` keys, each multiplied by `w`. -/
def A (z w : ℕ → EReal) (n : ℕ) : EReal := ∑ s ∈ Finset.range n, w s * Ideal.exp2 (z s - M z n)
/-- The sum of the weights of the first `n` keys. -/
def L (z : ℕ → EReal) (n : ℕ) : EReal := ∑ s ∈ Finset.range n, Ideal.exp2 (z s - M z n)

theorem le_M (z : ℕ → EReal) {n s : ℕ} (h : s < n) : z s ≤ M z n := Finset.le_sup (f := z) (Finset.mem_range.mpr h)

theorem M_zero (z : ℕ → EReal) : M z 0 = ⊥ := rfl
theorem A_zero (z w : ℕ → EReal) : A z w 0 = 0 := rfl
theorem L_zero (z : ℕ → EReal) : L z 0 = 0 := rfl

/-- The maximum of `n` keys and a tile of `k` more. -/
theorem M_add (z : ℕ → EReal) (n k : ℕ) :
    M z (n + k) = max (M z n) (Finset.univ.sup fun i : Fin k => z (n + i)) := by
  apply le_antisymm
  · refine Finset.sup_le fun s hs => ?_
    rw [Finset.mem_range] at hs
    by_cases h : s < n
    · exact le_max_of_le_left (le_M z h)
    · refine le_max_of_le_right ?_
      have := Finset.le_sup (f := fun i : Fin k => z (n + i)) (Finset.mem_univ (⟨s - n, by omega⟩ : Fin k))
      rwa [show n + (⟨s - n, by omega⟩ : Fin k).val = s from by simp; omega] at this
  · refine max_le (Finset.sup_mono (by intro s; simp only [Finset.mem_range]; omega)) (Finset.sup_le fun i _ => le_M z ?_)
    omega

theorem M_le_add (z : ℕ → EReal) (n k : ℕ) : M z n ≤ M z (n + k) := by rw [M_add]; exact le_max_left _ _

/-- The weighted sum of `n` keys, rescaled, and a tile of `k` more. -/
theorem A_add (z w : ℕ → EReal) (n k : ℕ) :
    A z w (n + k) = A z w n * Ideal.exp2 (M z n - M z (n + k)) + ∑ i : Fin k, w (n + i) * Ideal.exp2 (z (n + i) - M z (n + k)) := by
  have hs := sub_nonpos' (M_le_add z n k)
  unfold A
  rw [sum_mul _ _ (exp2_nonneg _) (exp2_ne_top hs), Finset.sum_range_add, ← Fin.sum_univ_eq_sum_range (fun i => w (n + i) * _)]
  congr 1
  refine Finset.sum_congr rfl fun s hs => ?_
  rw [mul_assoc, exp2_rescale (le_M z (Finset.mem_range.mp hs)) (M_le_add z n k)]

/-- The sum of the weights likewise. -/
theorem L_add (z : ℕ → EReal) (n k : ℕ) :
    L z (n + k) = L z n * Ideal.exp2 (M z n - M z (n + k)) + ∑ i : Fin k, Ideal.exp2 (z (n + i) - M z (n + k)) := by
  have h := A_add z (fun _ => 1) n k
  simpa only [A, L, one_mul] using h

/-! ## The keys after the query -/

/-- Keys of score `⊥` past the first `n` change nothing. -/
theorem M_ext (z : ℕ → EReal) (n k : ℕ) (h : ∀ s, n ≤ s → z s = ⊥) : M z (n + k) = M z n := by
  rw [M_add]
  refine max_eq_left (Finset.sup_le fun i _ => ?_)
  rw [h _ (Nat.le_add_right _ _)]; exact bot_le

theorem A_ext (z w : ℕ → EReal) (n k : ℕ) (h : ∀ s, n ≤ s → z s = ⊥) : A z w (n + k) = A z w n := by
  unfold A
  rw [M_ext z n k h, Finset.sum_range_add]
  rw [Finset.sum_eq_zero (s := Finset.range k), add_zero]
  intro i _
  rw [h _ (Nat.le_add_right _ _), EReal.bot_sub, exp2_bot, mul_zero]

theorem L_ext (z : ℕ → EReal) (n k : ℕ) (h : ∀ s, n ≤ s → z s = ⊥) : L z (n + k) = L z n := by
  have := A_ext z (fun _ => 1) n k h
  simpa only [A, L, one_mul] using this

/-! ## The quotient -/

theorem L_nonneg (z : ℕ → EReal) (n : ℕ) : 0 ≤ L z n := Finset.sum_nonneg fun _ _ => exp2_nonneg _

theorem L_ne_top (z : ℕ → EReal) (n : ℕ) : L z n ≠ ⊤ := by
  unfold L
  have : ∀ B : Finset ℕ, (∀ s ∈ B, s < n) → ∑ s ∈ B, Ideal.exp2 (z s - M z n) ≠ ⊤ := by
    intro B
    induction B using Finset.induction_on with
    | empty => intro _; simp
    | insert a B ha ih =>
      intro hB
      rw [Finset.sum_insert ha]
      exact EReal.add_ne_top (exp2_ne_top (sub_nonpos' (le_M z (hB a (Finset.mem_insert_self _ _)))))
        (ih fun s hs => hB s (Finset.mem_insert_of_mem hs))
  exact this _ fun s hs => Finset.mem_range.mp hs

/-- The kernel's quotient is the sum of the guarded probabilities. -/
theorem quotient (z w : ℕ → EReal) (n : ℕ) (v : EReal) :
    A z w n * Ideal.div v (L z n)
      = (∑ s ∈ Finset.range n, w s * (if L z n = 0 then 0 else Ideal.div (Ideal.exp2 (z s - M z n)) (L z n))) * v := by
  by_cases h : L z n = 0
  · have he : ∀ s ∈ Finset.range n, Ideal.exp2 (z s - M z n) = 0 :=
      (Finset.sum_eq_zero_iff_of_nonneg fun _ _ => exp2_nonneg _).mp h
    have hA : A z w n = 0 := Finset.sum_eq_zero fun s hs => by rw [he s hs, mul_zero]
    simp only [h, hA, if_true, mul_zero, Finset.sum_const_zero, zero_mul]
  · have hp : 0 < L z n := lt_of_le_of_ne (L_nonneg z n) (Ne.symm h)
    have hi0 : 0 ≤ (L z n)⁻¹ := EReal.inv_nonneg_of_nonneg hp.le
    have hit : (L z n)⁻¹ ≠ ⊤ := by
      obtain ⟨r, hr⟩ : ∃ r : ℝ, L z n = r :=
        ⟨(L z n).toReal, (EReal.coe_toReal (L_ne_top z n) (fun e => by rw [e] at hp; exact absurd hp (by simp))).symm⟩
      rw [hr, ← EReal.coe_inv]; exact EReal.coe_ne_top _
    simp only [h, if_false, Ideal.div]
    unfold A
    simp only [← mul_assoc]
    rw [← sum_mul _ _ hi0 hit]
    exact mul_right_comm _ _ _

/-! ## The same scores in natural units -/

/-- The maximum in natural units. -/
theorem sup_mul_log {ι : Type*} (B : Finset ι) (z : ι → EReal) :
    (B.sup fun s => z s * (Real.log 2 : ℝ)) = B.sup z * (Real.log 2 : ℝ) := by
  classical
  have hl : (0 : ℝ) < Real.log 2 := Real.log_pos (by norm_num)
  induction B using Finset.induction_on with
  | empty => simp [EReal.bot_mul_coe_of_pos hl]
  | insert a B ha ih =>
    rw [Finset.sup_insert, Finset.sup_insert, ih]
    exact (Monotone.map_sup (f := fun x : EReal => x * (Real.log 2 : ℝ))
      (fun x y hxy => mul_le_mul_of_nonneg_right hxy (by exact_mod_cast hl.le)) _ _).symm

/-- The weight of a key in natural units is its weight in base two. -/
theorem exp_sub (z m : EReal) : Ideal.exp (z * (Real.log 2 : ℝ) - m * (Real.log 2 : ℝ)) = Ideal.exp2 (z - m) := by
  have hl : (0 : ℝ) < Real.log 2 := Real.log_pos (by norm_num)
  rw [← exp_mul_log_two, sub_eq_add_neg, sub_eq_add_neg, ← EReal.neg_mul,
    EReal.right_distrib_of_nonneg_of_ne_top (by exact_mod_cast hl.le) (EReal.coe_ne_top _)]

end Cert.Softmax

end
-- ==== Proof.V.Tile.lean ====
/- The kernel's step on one tile of keys, read entry by entry over the extended reals. -/
module

public import proofs.«01_k».proof.Proof.K.Out
public import proofs.«01_k».proof.Proof.V.Math
public import Idealize.ShloMosaic.Lib.Pointwise

@[expose] public section

noncomputable section

namespace Cert.KernelIdeal.Hand

open Cert.KernelIdeal.Gen
open Idealize.ShloMosaic
open scoped BigOperators

/-- The score of key `i` of a tile against query `r` of a tile, scaled by `s`. -/
def sc (s : EReal) (kt q : Vec Ideal S1x256x128 .fp8e4m3) (i r : Fin 256) : EReal :=
  (∑ k : Fin 128, (kt (ix3 0 i k) : EReal) * (q (ix3 0 r k) : EReal)) * s

/-- The pattern of minus infinity is the least extended real. -/
theorem ofBits_neg_inf : Ideal.ofBits .f32 0xFF800000#32 = (⊥ : EReal) := by simp [Ideal.ofBits, Ideal.ieee]

/-- The maximum of a tile's scores `z` with the old maximum `m`. -/
def newM (m : EReal) (z : Fin 256 → EReal) : EReal := max m (Finset.univ.sup z)

theorem fold_max (z : Fin 256 → EReal) :
    Finset.fold max (Ideal.ofBits .f32 0xFF800000#32 : EReal) z Finset.univ = Finset.univ.sup z := by
  rw [ofBits_neg_inf]; rfl

variable (s : Ideal .f32) (kt q : Vec Ideal S1x256x128 .fp8e4m3) (m l : Vec Ideal S1x1x256 .f32) (vt : Vec Ideal S128x256 .bf16)
  (a : Vec Ideal S1x128x256 .f32)

theorem pay4_apply (i r : Fin 256) : (k0_pay4 (F := Ideal) s kt q (ix2 i r) : EReal) = sc s kt q i r := by
  unfold sc
  pointwise [k0_pay4, k0_pay3]

/-- The tile's score of key `i` against query `r` where the keys after the query are masked. -/
def scm (s : EReal) (kt q : Vec Ideal S1x256x128 .fp8e4m3) (i r : Fin 256) : EReal := if i ≤ r then sc s kt q i r else ⊥

theorem pay135_apply (i r : Fin 256) : (k0_pay135 (F := Ideal) s kt q (ix2 i r) : EReal) = scm s kt q i r := by
  unfold scm sc
  pointwise [k0_pay135, k0_pay134]
  rw [WordCmp.cmpi_sle_ofNat (by have := i.isLt; omega) (by have := r.isLt; omega), WordCmp.select_ofBool,
    show (Named.named (F := Ideal) (φ := .f32) κ "mask" 0xF149F2CA#32 : EReal) = ⊥ from IdealRules.named_const.ideal_named_scalar _ _ _ _ rfl]
  simp only [decide_eq_true_eq, Fin.le_def]

theorem pay6_apply (r : Fin 256) : (k0_pay6 (F := Ideal) s kt q m (ix2 0 r) : EReal)
    = newM (m (ix3 0 0 r)) (fun i => sc s kt q i r) := by
  unfold newM
  rw [← fold_max]
  pointwise [k0_pay6, k0_pay5]
  simp only [pay4_apply]

theorem pay137_apply (r : Fin 256) : (k0_pay137 (F := Ideal) s kt q m (ix2 0 r) : EReal)
    = newM (m (ix3 0 0 r)) (fun i => scm s kt q i r) := by
  unfold newM
  rw [← fold_max]
  pointwise [k0_pay137, k0_pay136]
  simp only [pay135_apply]

theorem pay7_apply (r : Fin 256) : (k0_pay7 (F := Ideal) s kt q m (ix2 0 r) : EReal)
    = Ideal.exp2 ((m (ix3 0 0 r) : EReal) - newM (m (ix3 0 0 r)) (fun i => sc s kt q i r)) := by
  pointwise [k0_pay7, k0_pay5]
  simp only [pay6_apply]
  rfl

theorem pay138_apply (r : Fin 256) : (k0_pay138 (F := Ideal) s kt q m (ix2 0 r) : EReal)
    = Ideal.exp2 ((m (ix3 0 0 r) : EReal) - newM (m (ix3 0 0 r)) (fun i => scm s kt q i r)) := by
  pointwise [k0_pay138, k0_pay136]
  simp only [pay137_apply]
  rfl

theorem pay8_apply (i r : Fin 256) : (k0_pay8 (F := Ideal) s kt q m (ix2 i r) : EReal)
    = Ideal.exp2 (sc s kt q i r - newM (m (ix3 0 0 r)) (fun i => sc s kt q i r)) := by
  pointwise [k0_pay8]
  simp only [pay6_apply, pay4_apply]
  rfl

theorem pay139_apply (i r : Fin 256) : (k0_pay139 (F := Ideal) s kt q m (ix2 i r) : EReal)
    = Ideal.exp2 (scm s kt q i r - newM (m (ix3 0 0 r)) (fun i => scm s kt q i r)) := by
  pointwise [k0_pay139]
  simp only [pay137_apply, pay135_apply]
  rfl

/-- The new maximum of a tile, -/
theorem stepM_apply (r : Fin 256) : (stepM (F := Ideal) s kt q m (ix3 0 0 r) : EReal)
    = newM (m (ix3 0 0 r)) (fun i => sc s kt q i r) := by
  pointwise [stepM, k0_pay10]
  simp only [pay6_apply]

/-- the new sum of weights, -/
theorem stepL_apply (r : Fin 256) : (stepL (F := Ideal) s kt q m l (ix3 0 0 r) : EReal)
    = (l (ix3 0 0 r) : EReal) * Ideal.exp2 ((m (ix3 0 0 r) : EReal) - newM (m (ix3 0 0 r)) (fun i => sc s kt q i r))
      + ∑ i, Ideal.exp2 (sc s kt q i r - newM (m (ix3 0 0 r)) (fun i => sc s kt q i r)) := by
  pointwise [stepL, k0_pay9]
  simp only [pay7_apply, pay8_apply]

/-- the new weighted sum. -/
theorem stepA_apply (d : Fin 128) (r : Fin 256) : (stepA (F := Ideal) s kt q vt m a (ix3 0 d r) : EReal)
    = (a (ix3 0 d r) : EReal) * Ideal.exp2 ((m (ix3 0 0 r) : EReal) - newM (m (ix3 0 0 r)) (fun i => sc s kt q i r))
      + ∑ i, (vt (ix2 d i) : EReal) * Ideal.exp2 (sc s kt q i r - newM (m (ix3 0 0 r)) (fun i => sc s kt q i r)) := by
  pointwise [stepA, k0_pay11]
  simp only [pay7_apply, pay8_apply]

/-- The same on the diagonal. -/
theorem maskL_apply (r : Fin 256) : (maskL (F := Ideal) s kt q m l (ix3 0 0 r) : EReal)
    = (l (ix3 0 0 r) : EReal) * Ideal.exp2 ((m (ix3 0 0 r) : EReal) - newM (m (ix3 0 0 r)) (fun i => scm s kt q i r))
      + ∑ i, Ideal.exp2 (scm s kt q i r - newM (m (ix3 0 0 r)) (fun i => scm s kt q i r)) := by
  pointwise [maskL, k0_pay140, k0_pay141]
  simp only [pay138_apply, pay139_apply]

@[inherit_doc maskL_apply]
theorem maskA_apply (d : Fin 128) (r : Fin 256) : (maskA (F := Ideal) s kt q vt m a (ix3 0 d r) : EReal)
    = (a (ix3 0 d r) : EReal) * Ideal.exp2 ((m (ix3 0 0 r) : EReal) - newM (m (ix3 0 0 r)) (fun i => scm s kt q i r))
      + ∑ i, (vt (ix2 d i) : EReal) * Ideal.exp2 (scm s kt q i r - newM (m (ix3 0 0 r)) (fun i => scm s kt q i r)) := by
  pointwise [maskA, k0_pay143]
  simp only [pay138_apply, pay139_apply]

/-- The output of a head from its sums. -/
theorem pay2_apply (v : Elt Ideal .f32) (r : Fin 256) (d : Fin 128) : (k0_pay2 (F := Ideal) a v l (ix3 0 r d) : EReal)
    = (a (ix3 0 d r) : EReal) * Ideal.div v (l (ix3 0 0 r)) := by
  pointwise [k0_pay2]

/-- The value tile transposed. -/
theorem pay113_apply (x : Vec Ideal S1x256x128 .fp8e4m3) (d : Fin 128) (i : Fin 256) :
    (k0_pay113 (F := Ideal) x (ix2 d i) : EReal) = (x (ix3 0 i d) : EReal) := by
  pointwise [k0_pay113]

end Cert.KernelIdeal.Hand

end
-- ==== Proof.V.Head.lean ====
/- What the kernel leaves in an output block, as the online softmax of the whole arrays. -/
module

public import proofs.«01_k».proof.Proof.V.Tile

@[expose] public section

noncomputable section

namespace Cert.KernelIdeal.Hand

open Cert.KernelIdeal.Gen
open Idealize.ShloMosaic
open scoped BigOperators
open Cert.Softmax

/-! ## One head -/

section
variable (s : Ideal .f32) (q : Vec Ideal S1x256x128 .fp8e4m3) (K : ℕ → Vec Ideal S1x256x128 .fp8e4m3) (V : ℕ → Vec Ideal S128x256 .bf16)
  (z w : ℕ → EReal) (r : Fin 256) (d : Fin 128)

/-- The maximum after one more tile. -/
theorem newM_M (n : ℕ) : newM (M z (256 * n)) (fun i => z (256 * n + i)) = M z (256 * (n + 1)) :=
  (M_add z (256 * n) 256).symm

/-- After `k` tiles a head holds the maximum, the sum and the weighted sum of the first `256 k` keys. -/
theorem headAt_apply (n : ℕ) (hz : ∀ j, j < n → ∀ i : Fin 256, sc s (K j) q i r = z (256 * j + i))
    (hv : ∀ j, j < n → ∀ i : Fin 256, (V j (ix2 d i) : EReal) = w (256 * j + i)) :
    ∀ k, k ≤ n → ((headAt (F := Ideal) s q K V initHS k).1 (ix3 0 0 r) : EReal) = M z (256 * k)
      ∧ ((headAt (F := Ideal) s q K V initHS k).2.1 (ix3 0 0 r) : EReal) = L z (256 * k)
      ∧ ((headAt (F := Ideal) s q K V initHS k).2.2 (ix3 0 d r) : EReal) = A z w (256 * k) := by
  intro k
  induction k with
  | zero =>
    intro _
    refine ⟨?_, ?_, ?_⟩
    · show (Named.named (F := Ideal) (φ := .f32) κ "mask" 0xF149F2CA#32 : EReal) = ⊥
      exact IdealRules.named_const.ideal_named_scalar _ _ _ _ rfl
    · exact Ideal.ofBits_zero_f32
    · exact Ideal.ofBits_zero_f32
  | succ k ih =>
    intro hk
    obtain ⟨h1, h2, h3⟩ := ih (by omega)
    have e : (fun i => sc s (K k) q i r) = fun i : Fin 256 => z (256 * k + i) := funext fun i => hz k (by omega) i
    refine ⟨?_, ?_, ?_⟩
    · show (stepM (F := Ideal) s (K k) q _ (ix3 0 0 r) : EReal) = _
      rw [stepM_apply, h1, e, newM_M]
    · show (stepL (F := Ideal) s (K k) q _ _ (ix3 0 0 r) : EReal) = _
      rw [stepL_apply, h1, h2, e, newM_M]
      simp only [hz k (by omega)]
      exact (L_add z (256 * k) 256).symm
    · show (stepA (F := Ideal) s (K k) q (V k) _ _ (ix3 0 d r) : EReal) = _
      rw [stepA_apply, h1, h3, e, newM_M]
      simp only [hz k (by omega), hv k (by omega)]
      exact (A_add z w (256 * k) 256).symm

/-- The output of a head: the weighted sum over the sum, the last tile masked. -/
theorem headOut_apply (vs : Ideal .f32) (n : ℕ) (hz : ∀ j, j < n → ∀ i : Fin 256, sc s (K j) q i r = z (256 * j + i))
    (hm : ∀ i : Fin 256, scm s (K n) q i r = z (256 * n + i))
    (hv : ∀ j, j ≤ n → ∀ i : Fin 256, (V j (ix2 d i) : EReal) = w (256 * j + i)) :
    (headOut (F := Ideal) s vs q K V n (ix3 0 r d) : EReal)
      = A z w (256 * (n + 1)) * Ideal.div vs (L z (256 * (n + 1))) := by
  obtain ⟨h1, h2, h3⟩ := headAt_apply s q K V z w r d n hz (fun j hj => hv j hj.le) n le_rfl
  have e : (fun i => scm s (K n) q i r) = fun i : Fin 256 => z (256 * n + i) := funext hm
  unfold headOut headEnd
  dsimp only
  rw [pay2_apply, maskA_apply, maskL_apply, h1, h2, h3, e, newM_M]
  simp only [hm, hv n le_rfl]
  rw [show A z w (256 * (n + 1)) = _ from A_add z w (256 * n) 256, show L z (256 * (n + 1)) = _ from L_add z (256 * n) 256]
  rfl
end

/-! ## The arrays -/

/-- The score scale of head `(g, h)`, in base two. -/
def c2 : EReal := (((11863283 / 134217728) * (Real.log 2)⁻¹ : ℝ) : EReal)

/-- The query column `k` of head `(g, h)`, -/
def qcol (g : Fin 8) (h : Fin 7) (k : Fin 128) : Fin 7168 := ⟨896 * g.val + (128 * h.val + k.val), by omega⟩
/-- the key column `k` of key head `g`, -/
def kcol (g : Fin 8) (k : Fin 128) : Fin 1024 := ⟨128 * g.val + k.val, by omega⟩
/-- the number of head `(g, h)`. -/
def hcol (g : Fin 8) (h : Fin 7) : Fin 56 := ⟨7 * g.val + h.val, by omega⟩
/-- Key `s`. -/
def row (s : ℕ) : Fin 8192 := ⟨s % 8192, Nat.mod_lt _ (by decide)⟩

variable (X : Vec Ideal S4x8192x7168 .fp8e4m3) (Kk Vv : Vec Ideal S4x8192x1024 .fp8e4m3) (qs : Vec Ideal S56 .f32) (ks vs : Vec Ideal S8 .f32)

/-- The product of key `s` with query `y`. -/
def dotOf (b : Fin 4) (g : Fin 8) (h : Fin 7) (y : Fin 8192) (s : ℕ) : EReal :=
  ∑ k : Fin 128, (Kk (ix3 b (row s) (kcol g k)) : EReal) * (X (ix3 b y (qcol g h k)) : EReal)

/-- The score of key `s` against query `y`, the keys after the query masked. -/
def zOf (b : Fin 4) (g : Fin 8) (h : Fin 7) (y : Fin 8192) (s : ℕ) : EReal :=
  if s ≤ y.val then dotOf X Kk b g h y s * ((qs (ix1 (hcol g h)) : EReal) * (ks (ix1 g) : EReal) * c2) else ⊥

/-- The value column `d` of key `s`. -/
def wOf (b : Fin 4) (g : Fin 8) (d : Fin 128) (s : ℕ) : EReal := (Vv (ix3 b (row s) (kcol g d)) : EReal)

/-- The attention output of the kernel. -/
def outOf (b : Fin 4) (y : Fin 8192) (g : Fin 8) (h : Fin 7) (d : Fin 128) : EReal :=
  A (zOf X Kk qs ks b g h y) (wOf Vv b g d) 8192 * Ideal.div (vs (ix1 g)) (L (zOf X Kk qs ks b g h y) 8192)

/-- The query block of a point, -/
def xBlk (b : Fin 4) (g : Fin 8) (n : Fin 32) : Vec Ideal S1x256x896 .fp8e4m3 := fun j =>
  X (ix3 b ⟨256 * n.val + (j 1).val, by have : (j 1).val < 256 := (j 1).isLt; omega⟩ ⟨896 * g.val + (j 2).val, by have : (j 2).val < 896 := (j 2).isLt; omega⟩)
/-- and its block of keys or values. -/
def kBlk (b : Fin 4) (g : Fin 8) : Vec Ideal S1x8192x128 .fp8e4m3 := fun j =>
  Kk (ix3 b ⟨(j 1).val, (j 1).isLt⟩ ⟨128 * g.val + (j 2).val, by have : (j 2).val < 128 := (j 2).isLt; omega⟩)

/-- The scale of a head in the kernel, with the named constant read as its value. -/
theorem scale_apply (g : Fin 8) (h : Fin 7) : (scale (F := Ideal) qs ks g h : EReal) = (qs (ix1 (hcol g h)) : EReal) * (ks (ix1 g) : EReal) * c2 := by
  unfold scale k0_pay117
  rw [show (Named.named (F := Ideal) (φ := .f32) κ "scale2" 0x3E0293EE#32) = c2 from IdealRules.named_const.ideal_named_scalar _ _ _ _ rfl]
  rfl

/-- A score of a tile is the score of the whole arrays. -/
theorem sc_block (b : Fin 4) (g : Fin 8) (h : Fin 7) (n : Fin 32) (r : Fin 256) (j : ℕ) (i : Fin 256) (y : Fin 8192) (hy : y.val = 256 * n.val + r.val) :
    sc (scale (F := Ideal) qs ks g h) (tileK (kBlk Kk b g) j) (tileQ (xBlk X b g n) h) i r
      = dotOf X Kk b g h y (256 * j + i) * ((qs (ix1 (hcol g h)) : EReal) * (ks (ix1 g) : EReal) * c2) := by
  have hlt : 256 * n.val + r.val < 8192 := by have := n.isLt; have := r.isLt; omega
  obtain rfl : y = ⟨256 * n.val + r.val, hlt⟩ := Fin.ext hy
  unfold sc dotOf
  rw [scale_apply]
  rfl

/-- The output block of a point, read at one entry. -/
theorem outBlk_apply (b : Fin 4) (g : Fin 8) (h : Fin 7) (n : Fin 32) (r : Fin 256) (d : Fin 128) (c : Fin 896) (hc : c.val = 128 * h.val + d.val)
    (y : Fin 8192) (hy : y.val = 256 * n.val + r.val) :
    (outBlk (F := Ideal) qs ks vs (xBlk X b g n) (kBlk Kk b g) (vtOf (kBlk Vv b g)) g n.val (ix3 0 r c) : EReal)
      = outOf X Kk Vv qs ks vs b y g h d := by
  have e1 : (⟨c.val / 128, by omega⟩ : Fin 7) = h := Fin.ext (by show c.val / 128 = h.val; omega)
  have e2 : (⟨c.val % 128, Nat.mod_lt _ (by decide)⟩ : Fin 128) = d := Fin.ext (by show c.val % 128 = d.val; omega)
  have e : (outBlk (F := Ideal) qs ks vs (xBlk X b g n) (kBlk Kk b g) (vtOf (kBlk Vv b g)) g n.val (ix3 0 r c) : EReal)
      = headOut (F := Ideal) (scale qs ks g h) (vs (ix1 g)) (tileQ (xBlk X b g n) h) (tileK (kBlk Kk b g)) (tileV (vtOf (kBlk Vv b g))) n.val (ix3 0 r d) := by
    have aux : ∀ (h' : Fin 7) (d' : Fin 128), h' = h → d' = d →
        (headOut (F := Ideal) (scale qs ks g h') (vs (ix1 g)) (tileQ (xBlk X b g n) h') (tileK (kBlk Kk b g)) (tileV (vtOf (kBlk Vv b g))) n.val (ix3 0 r d') : EReal)
          = headOut (F := Ideal) (scale qs ks g h) (vs (ix1 g)) (tileQ (xBlk X b g n) h) (tileK (kBlk Kk b g)) (tileV (vtOf (kBlk Vv b g))) n.val (ix3 0 r d) := by
      rintro _ _ rfl rfl; rfl
    exact aux _ _ e1 e2
  have hbot : ∀ s, 256 * (n.val + 1) ≤ s → zOf X Kk qs ks b g h y s = ⊥ := fun s hs => if_neg (by omega)
  have e8 : (8192 : ℕ) = 256 * (n.val + 1) + (8192 - 256 * (n.val + 1)) := by omega
  rw [e, headOut_apply _ _ _ _ (zOf X Kk qs ks b g h y) (wOf Vv b g d) r d]
  · unfold outOf
    rw [e8, A_ext _ _ _ _ hbot, L_ext _ _ _ hbot]
  · intro j hj i
    rw [sc_block X Kk qs ks b g h n r j i y hy]
    exact (if_pos (by omega)).symm
  · intro i
    unfold scm
    rw [sc_block X Kk qs ks b g h n r n.val i y hy]
    unfold zOf
    refine if_congr ?_ rfl rfl
    rw [Fin.le_def]; omega
  · intro j hj i
    have hi := i.isLt
    show (k0_pay113 (F := Ideal) (tileK (kBlk Vv b g) ((256 * j + i.val) % 8192 / 256)) (ix2 d ⟨(256 * j + i.val) % 8192 % 256, _⟩) : EReal) = _
    rw [pay113_apply]
    show (Vv (ix3 b ⟨(256 * ((256 * j + i.val) % 8192 / 256) + (256 * j + i.val) % 8192 % 256) % 8192, _⟩ _) : EReal) = _
    exact congrArg (fun p => (Vv (ix3 b p (kcol g d)) : EReal)) (Fin.ext (by
      show (256 * ((256 * j + i.val) % 8192 / 256) + (256 * j + i.val) % 8192 % 256) % 8192 = (256 * j + i.val) % 8192
      omega))

end Cert.KernelIdeal.Hand

end
-- ==== Proof.V.Array.lean ====
/- The array the kernel leaves, as the attention output entry by entry. -/
module

public import proofs.«01_k».proof.Proof.K.Frame
public import proofs.«01_k».proof.Proof.V.Head

@[expose] public section

set_option maxRecDepth 16384

noncomputable section

namespace Cert.KernelIdeal.Hand

open Cert.KernelIdeal.Gen
open Idealize.ShloMosaic Idealize.ShloMosaic.TcCoe
open Idealize.ShloMosaic.Pipeline (Dat Cfg Window BodyObligation cellOf)

variable (m : (ℓ : Loc nD τ sig) → Buf (Elt Ideal) ℓ)

theorem idx0 : ∀ t : Fin grid0.N, win0_0.index t = ![0] := by decide +kernel
theorem idx1 : ∀ t : Fin grid0.N, win0_1.index t = ![0] := by decide +kernel
theorem idx2 : ∀ t : Fin grid0.N, win0_2.index t = ![0] := by decide +kernel
theorem idx3 : ∀ t : Fin grid0.N, win0_3.index t = ![(grid0.coords t 0).val, (grid0.coords t 2).val, (grid0.coords t 1).val] := by decide +kernel
theorem idx4 : ∀ t : Fin grid0.N, win0_4.index t = ![(grid0.coords t 0).val, 0, (grid0.coords t 1).val] := by decide +kernel
theorem idx6 : ∀ t : Fin grid0.N, win0_6.index t = ![(grid0.coords t 0).val, (grid0.coords t 2).val, (grid0.coords t 1).val] := by decide +kernel

/-- The scales are staged whole, and the queries, keys and values by blocks (to `iblk5_eq`). -/
theorem iblk0_eq (c : Dev nD) (t : Fin cfg0.N) : (iblk m c 0 t : Vec Ideal S56 .f32) = V m c main_arg3 := by
  funext j
  blk_simp [iblk]
  blk_ext [idx0]
theorem iblk1_eq (c : Dev nD) (t : Fin cfg0.N) : (iblk m c 1 t : Vec Ideal S8 .f32) = V m c main_arg4 := by
  funext j
  blk_simp [iblk]
  blk_ext [idx1]
theorem iblk2_eq (c : Dev nD) (t : Fin cfg0.N) : (iblk m c 2 t : Vec Ideal S8 .f32) = V m c main_arg5 := by
  funext j
  blk_simp [iblk]
  blk_ext [idx2]
theorem iblk3_eq (c : Dev nD) (t : Fin cfg0.N) : (iblk m c 3 t : Vec Ideal S1x256x896 .fp8e4m3)
    = xBlk (V m c main_arg0) (grid0.coords t 0) (grid0.coords t 1) (grid0.coords t 2) := by
  funext j
  blk_simp [iblk, xBlk, idx3]
  blk_ext [idx3]
theorem iblk4_eq (c : Dev nD) (t : Fin cfg0.N) : (iblk m c 4 t : Vec Ideal S1x8192x128 .fp8e4m3)
    = kBlk (V m c main_arg1) (grid0.coords t 0) (grid0.coords t 1) := by
  funext j
  blk_simp [iblk, kBlk]
  blk_ext [idx4]
theorem iblk5_eq (c : Dev nD) (t : Fin cfg0.N) : (iblk m c 5 t : Vec Ideal S1x8192x128 .fp8e4m3)
    = kBlk (V m c main_arg2) (grid0.coords t 0) (grid0.coords t 1) := by
  funext j
  blk_simp [iblk, kBlk]
  blk_ext [vt_idx]

/-- The array of attention outputs. -/
def outArr (c : Dev nD) : Vec Ideal S4x8192x7168 .bf16 := fun i =>
  outOf (V m c main_arg0) (V m c main_arg1) (V m c main_arg2) (V m c main_arg3) (V m c main_arg4) (V m c main_arg5)
    ⟨(i 0).val, (i 0).isLt⟩ ⟨(i 1).val, (i 1).isLt⟩ ⟨(i 2).val / 896, by have : (i 2).val < 7168 := (i 2).isLt; omega⟩
    ⟨(i 2).val % 896 / 128, by omega⟩ ⟨(i 2).val % 128, Nat.mod_lt _ (by decide)⟩

/-- After the last grid point the kernel's output array holds the attention outputs. -/
theorem arr_eq (c : Dev nD) : (dats m 0 c).arrAt 6 cfg0.N = outArr m c := by
  refine (dats m 0 c).arrAt_eq_of_covers 6 (outArr m c) (hcov := by decide +kernel) (fun t hf y => ?_)
  blk_simp [outArr]
  rw [after0_6]
  have h0 : (y 0).val < 1 := (y 0).isLt
  have h1 : (y 1).val < 256 := (y 1).isLt
  have h2 : (y 2).val < 896 := (y 2).isLt
  have hn : (grid0.coords t 2).val < 32 := (grid0.coords t 2).isLt
  have hg : (grid0.coords t 1).val < 8 := (grid0.coords t 1).isLt
  have ey : y = ix3 0 ⟨(y 1).val, h1⟩ ⟨(y 2).val, h2⟩ := by
    funext a
    fin_cases a
    · exact Fin.ext (by show (y 0).val = 0; omega)
    · rfl
    · rfl
  have key := outBlk_apply (V m c main_arg0) (V m c main_arg1) (V m c main_arg2) (V m c main_arg3) (V m c main_arg4) (V m c main_arg5)
    (grid0.coords t 0) (grid0.coords t 1) ⟨(y 2).val / 128, by omega⟩ (grid0.coords t 2) ⟨(y 1).val, h1⟩ ⟨(y 2).val % 128, Nat.mod_lt _ (by decide)⟩
    ⟨(y 2).val, h2⟩ (by show (y 2).val = 128 * ((y 2).val / 128) + (y 2).val % 128; omega)
    ⟨256 * (grid0.coords t 2).val + (y 1).val, by omega⟩ rfl
  have e : (outAt m c t y : EReal) = outBlk (F := Ideal) (V m c main_arg3) (V m c main_arg4) (V m c main_arg5)
      (xBlk (V m c main_arg0) (grid0.coords t 0) (grid0.coords t 1) (grid0.coords t 2)) (kBlk (V m c main_arg1) (grid0.coords t 0) (grid0.coords t 1))
      (vtOf (kBlk (V m c main_arg2) (grid0.coords t 0) (grid0.coords t 1))) (grid0.coords t 1) (grid0.coords t 2).val
      (ix3 0 ⟨(y 1).val, h1⟩ ⟨(y 2).val, h2⟩) := by
    unfold outAt
    rw [iblk0_eq, iblk1_eq, iblk2_eq, iblk3_eq, iblk4_eq, iblk5_eq]
    exact congrArg _ ey
  refine e.trans (key.trans ?_)
  have e6 := idx6 t
  have a0 : win0_6.index t 0 = (grid0.coords t 0).val := congrFun e6 0
  have a1 : win0_6.index t 1 = (grid0.coords t 2).val := congrFun e6 1
  have a2 : win0_6.index t 2 = (grid0.coords t 1).val := congrFun e6 2
  congr 1 <;> apply Fin.ext <;> simp only [a0, a1, a2] <;> omega

end Cert.KernelIdeal.Hand

end
-- ==== Proof.R.Terms.lean ====
/- The reference's host operations, composed: the output array from the decoded operands and the scales. -/
module

public import proofs.«01_k».proof.Proof.Gen.ReferenceIdeal.Launch
public import Idealize.ShloMosaic.Lib.StableHlo.RunRead
public import Idealize.ShloMosaic.Lib.Pipeline.FrameSuffix

@[expose] public section

set_option maxRecDepth 16384

noncomputable section

namespace Cert.ReferenceIdeal.Hand

open Cert.ReferenceIdeal.Gen Cert.ReferenceIdeal
open Idealize.ShloMosaic Idealize.ShloMosaic.TcCoe

variable {F : FTy → Type} [FloatOps F]

/-- The scale of each query head: its own scale by its group's key scale by the softmax scale. -/
def scaleOf (qs : Vec F S56 .f32) (ks : Vec F S8 .f32) : Vec F S8x7 .f32 :=
  mulf (mulf (shapeCast S8x7 qs shapeCasts_S56_S8x7)
      (broadcastInDim S8x7 ![0, 1] bcast_S8x1_S8x7_0_1 (broadcastInDim S8x1 ![0] bcast_S8_S8x1_0 ks)))
    (broadcastInDim S8x7 ![] bcast_S_S8x7 (constant S_ .f32 0x3DB504F3#32))

/-- Queries against keys. -/
def dotsOf (x : Vec F S4x8192x7168 .f32) (k : Vec F S4x8192x1024 .f32) : Vec F S4x8x7x8192x8192 .f32 :=
  transpose S4x8x7x8192x8192 [0, 1, 4, 3, 2]
    (Host.dotGeneral dot_S4x8192x8x128_S4x8192x8x7x128_S4x8x8192x8192x7_3_4_1_13_02_02 none
      (shapeCast S4x8192x8x128 k shapeCasts_S4x8192x1024_S4x8192x8x128)
      (shapeCast S4x8192x8x7x128 x shapeCasts_S4x8192x7168_S4x8192x8x7x128))
    transposes_S4x8x8192x8192x7_S4x8x7x8192x8192_0_1_4_3_2

/-- The scaled scores. -/
def scoresOf (x : Vec F S4x8192x7168 .f32) (k : Vec F S4x8192x1024 .f32) (qs : Vec F S56 .f32) (ks : Vec F S8 .f32) :
    Vec F S4x8x7x8192x8192 .f32 :=
  mulf (dotsOf x k)
    (broadcastInDim S4x8x7x8192x8192 ![0, 1, 2, 3, 4] bcast_S1x8x7x1x1_S4x8x7x8192x8192_0_1_2_3_4
      (broadcastInDim S1x8x7x1x1 ![1, 2] bcast_S8x7_S1x8x7x1x1_1_2 (scaleOf qs ks)))

/-- Key position at most query position. -/
def maskOf : Vec F S8192x8192 .i1 :=
  cmpi .sle
    (broadcastInDim S8192x8192 ![0, 1] bcast_S1x8192_S8192x8192_0_1 (broadcastInDim S1x8192 ![1] bcast_S8192_S1x8192_1 (iotaInDim S8192 32 0 : Vec F S8192 .i32)))
    (broadcastInDim S8192x8192 ![0, 1] bcast_S8192x1_S8192x8192_0_1 (broadcastInDim S8192x1 ![0] bcast_S8192_S8192x1_0 (iotaInDim S8192 32 0 : Vec F S8192 .i32)))

/-- The scores with the future masked. -/
def maskedOf (s : Vec F S4x8x7x8192x8192 .f32) : Vec F S4x8x7x8192x8192 .f32 :=
  select (broadcastInDim S4x8x7x8192x8192 ![3, 4] bcast_S8192x8192_S4x8x7x8192x8192_3_4 (maskOf (F := F))) s
    (broadcastInDim S4x8x7x8192x8192 ![] bcast_S_S4x8x7x8192x8192 (constant S_ .f32 0xFF800000#32))

/-- The row maxima. -/
def rowMax (z : Vec F S4x8x7x8192x8192 .f32) : Vec F S4x8x7x8192 .f32 :=
  Host.reduce FloatOps.maximumf z (constant S_ .f32 0xFF800000#32) reducesTo_S4x8x7x8192x8192_S4x8x7x8192_d4 h_S_

/-- A row's value at every key. -/
def alongRow (r : Vec F S4x8x7x8192x1 .f32) : Vec F S4x8x7x8192x8192 .f32 :=
  broadcastInDim S4x8x7x8192x8192 ![0, 1, 2, 3, 4] bcast_S4x8x7x8192x1_S4x8x7x8192x8192_0_1_2_3_4 r

/-- A row's value as a column. -/
def asColumn (r : Vec F S4x8x7x8192 .f32) : Vec F S4x8x7x8192x1 .f32 :=
  broadcastInDim S4x8x7x8192x1 ![0, 1, 2, 3] bcast_S4x8x7x8192_S4x8x7x8192x1_0_1_2_3 r

/-- The exponentials of the scores below their row's maximum. -/
def expOf (z : Vec F S4x8x7x8192x8192 .f32) : Vec F S4x8x7x8192x8192 .f32 :=
  Host.exp (subf z (alongRow (asColumn (rowMax z))))

/-- The row sums. -/
def rowSum (e : Vec F S4x8x7x8192x8192 .f32) : Vec F S4x8x7x8192 .f32 :=
  Host.reduceAdd e (constant S_ .f32 0x00000000#32) reducesTo_S4x8x7x8192x8192_S4x8x7x8192_d4 h_S_

/-- The probabilities: zero in a row whose sum is zero, otherwise the exponentials over it. -/
def probsOf (e : Vec F S4x8x7x8192x8192 .f32) : Vec F S4x8x7x8192x8192 .f32 :=
  select (broadcastInDim S4x8x7x8192x8192 ![0, 1, 2, 3, 4] bcast_S4x8x7x8192x1_S4x8x7x8192x8192_0_1_2_3_4
      (cmpf .oeq (asColumn (rowSum e)) (broadcastInDim S4x8x7x8192x1 ![] bcast_S_S4x8x7x8192x1 (constant S_ .f32 0x00000000#32))))
    (broadcastInDim S4x8x7x8192x8192 ![] bcast_S_S4x8x7x8192x8192 (constant S_ .f32 0x00000000#32))
    (Host.divf e (alongRow (asColumn (rowSum e))))

/-- Probabilities against values, by the value scale, in the output's layout. -/
def mixOf (v : Vec F S4x8192x1024 .bf16) (p : Vec F S4x8x7x8192x8192 .f32) (vs : Vec F S8 .f32) : Vec F S4x8192x8x7x128 .f32 :=
  mulf (transpose S4x8192x8x7x128 [0, 4, 1, 3, 2]
      (Host.dotGeneral dot_S4x8192x8x128_S4x8x7x8192x8192_S4x8x128x7x8192_1_4_3_23_02_01 none
        (shapeCast S4x8192x8x128 v shapeCasts_S4x8192x1024_S4x8192x8x128) (truncf .bf16 p bitsLt_bf16_f32))
      transposes_S4x8x128x7x8192_S4x8192x8x7x128_0_4_1_3_2)
    (broadcastInDim S4x8192x8x7x128 ![0, 1, 2, 3, 4] bcast_S1x1x8x1x1_S4x8192x8x7x128_0_1_2_3_4
      (broadcastInDim S1x1x8x1x1 ![2] bcast_S8_S1x1x8x1x1_2 vs))

/-- The output array. -/
def attnOf (x : Vec F S4x8192x7168 .f32) (k : Vec F S4x8192x1024 .f32) (v : Vec F S4x8192x1024 .bf16)
    (qs : Vec F S56 .f32) (ks vs : Vec F S8 .f32) : Vec F S4x8192x7168 .bf16 :=
  shapeCast S4x8192x7168
    (truncf .bf16 (mixOf v (probsOf (expOf (maskedOf (scoresOf x k qs ks)))) vs) bitsLt_bf16_f32)
    shapeCasts_S4x8192x8x7x128_S4x8192x7168

/-! ## Each stretch of host operations, from any contents -/

variable (W : Valuation τ sig (Elt F))

/-- The first stretch: the values by heads, the value scale, the scores, the mask and minus infinity (to `s0_cst0`). -/
theorem s0_v3 : StableHlo.after hostOps1 W (Proc.devRef .tc main_v3)
    = shapeCast S4x8192x8x128 (W (Proc.devRef .tc main_v0_2)) shapeCasts_S4x8192x1024_S4x8192x8x128 := by
  after_reads_simp; rfl
theorem s0_v11 : StableHlo.after hostOps1 W (Proc.devRef .tc main_v11)
    = broadcastInDim S1x1x8x1x1 ![2] bcast_S8_S1x1x8x1x1_2 (W (Proc.devRef .tc main_arg5)) := by
  after_reads_simp
theorem s0_v16 : StableHlo.after hostOps1 W (Proc.devRef .tc main_v16)
    = scoresOf (W (Proc.devRef .tc main_v0_0)) (W (Proc.devRef .tc main_v0_1)) (W (Proc.devRef .tc main_arg3)) (W (Proc.devRef .tc main_arg4)) := by
  after_reads_simp; rfl
theorem s0_v21 : StableHlo.after hostOps1 W (Proc.devRef .tc main_v21) = maskOf (F := F) := by
  after_reads_simp; rfl
theorem s0_cst0 : StableHlo.after hostOps1 W (Proc.devRef .tc main_cst_0) = (constant S_ .f32 0xFF800000#32 : Vec F S_ .f32) := by
  after_reads_simp

/-- The second stretch masks the scores and keeps the values and the value scale (to `s1_v11`). -/
theorem s1_v22 : StableHlo.after hostOps1_1 W (Proc.devRef .tc main_v22)
    = select (broadcastInDim S4x8x7x8192x8192 ![3, 4] bcast_S8192x8192_S4x8x7x8192x8192_3_4 (W (Proc.devRef .tc main_v21)))
        (W (Proc.devRef .tc main_v16))
        (broadcastInDim S4x8x7x8192x8192 ![] bcast_S_S4x8x7x8192x8192 (W (Proc.devRef .tc main_cst_0))) := by
  after_reads_simp; rfl
theorem s1_v3 : StableHlo.after hostOps1_1 W (Proc.devRef .tc main_v3) = W (Proc.devRef .tc main_v3) := by after_reads_simp
theorem s1_v11 : StableHlo.after hostOps1_1 W (Proc.devRef .tc main_v11) = W (Proc.devRef .tc main_v11) := by after_reads_simp

/-- The third stretch: the test for a zero sum, the quotient and zero (to `s2_v11`). -/
theorem s2_v31 : StableHlo.after hostOps1_2 W (Proc.devRef .tc main_v31)
    = cmpf .oeq (asColumn (rowSum (expOf (W (Proc.devRef .tc main_v22)))))
        (broadcastInDim S4x8x7x8192x1 ![] bcast_S_S4x8x7x8192x1 (constant S_ .f32 0x00000000#32)) := by
  after_reads_simp; rfl
theorem s2_v33 : StableHlo.after hostOps1_2 W (Proc.devRef .tc main_v33)
    = Host.divf (expOf (W (Proc.devRef .tc main_v22))) (alongRow (asColumn (rowSum (expOf (W (Proc.devRef .tc main_v22)))))) := by
  after_reads_simp; rfl
theorem s2_cst4 : StableHlo.after hostOps1_2 W (Proc.devRef .tc main_cst_4) = (constant S_ .f32 0x00000000#32 : Vec F S_ .f32) := by
  after_reads_simp
theorem s2_v3 : StableHlo.after hostOps1_2 W (Proc.devRef .tc main_v3) = W (Proc.devRef .tc main_v3) := by after_reads_simp
theorem s2_v11 : StableHlo.after hostOps1_2 W (Proc.devRef .tc main_v11) = W (Proc.devRef .tc main_v11) := by after_reads_simp

/-- The fourth stretch guards the quotient (to `s3_v11`). -/
theorem s3_v34 : StableHlo.after hostOps1_3 W (Proc.devRef .tc main_v34)
    = select (broadcastInDim S4x8x7x8192x8192 ![0, 1, 2, 3, 4] bcast_S4x8x7x8192x1_S4x8x7x8192x8192_0_1_2_3_4 (W (Proc.devRef .tc main_v31)))
        (broadcastInDim S4x8x7x8192x8192 ![] bcast_S_S4x8x7x8192x8192 (W (Proc.devRef .tc main_cst_4)))
        (W (Proc.devRef .tc main_v33)) := by
  after_reads_simp; rfl
theorem s3_v3 : StableHlo.after hostOps1_3 W (Proc.devRef .tc main_v3) = W (Proc.devRef .tc main_v3) := by after_reads_simp
theorem s3_v11 : StableHlo.after hostOps1_3 W (Proc.devRef .tc main_v11) = W (Proc.devRef .tc main_v11) := by after_reads_simp

/-- The last stretch mixes the values and lays the output out. -/
theorem s4_v41 : StableHlo.after hostOps1_4 W (Proc.devRef .tc main_v41)
    = shapeCast S4x8192x7168 (truncf .bf16 (mulf (transpose S4x8192x8x7x128 [0, 4, 1, 3, 2]
      (Host.dotGeneral dot_S4x8192x8x128_S4x8x7x8192x8192_S4x8x128x7x8192_1_4_3_23_02_01 none
        (W (Proc.devRef .tc main_v3)) (truncf .bf16 (W (Proc.devRef .tc main_v34)) bitsLt_bf16_f32))
      transposes_S4x8x128x7x8192_S4x8192x8x7x128_0_4_1_3_2)
    (broadcastInDim S4x8192x8x7x128 ![0, 1, 2, 3, 4] bcast_S1x1x8x1x1_S4x8192x8x7x128_0_1_2_3_4
      (W (Proc.devRef .tc main_v11)))) bitsLt_bf16_f32)
    shapeCasts_S4x8192x8x7x128_S4x8192x7168 := by
  after_reads_simp; rfl

/-- All stretches in a row leave the output array in its buffer. -/
theorem tail_v41 : StableHlo.after (List.flatten [hostOps1, hostOps1_1, hostOps1_2, hostOps1_3, hostOps1_4]) W (Proc.devRef .tc main_v41)
    = attnOf (W (Proc.devRef .tc main_v0_0)) (W (Proc.devRef .tc main_v0_1)) (W (Proc.devRef .tc main_v0_2))
        (W (Proc.devRef .tc main_arg3)) (W (Proc.devRef .tc main_arg4)) (W (Proc.devRef .tc main_arg5)) := by
  rw [List.flatten_cons, List.flatten_cons, List.flatten_cons, List.flatten_cons, List.flatten_cons, List.flatten_nil, List.append_nil,
    StableHlo.after_append, StableHlo.after_append, StableHlo.after_append, StableHlo.after_append,
    s4_v41, s3_v34, s3_v3, s3_v11, s2_v31, s2_v33, s2_cst4, s2_v3, s2_v11, s1_v22, s1_v3, s1_v11, s0_v3, s0_v11, s0_v16, s0_v21, s0_cst0]
  rfl

end Cert.ReferenceIdeal.Hand

end
-- ==== Proof.R.Read.lean ====
/- The reference's output array at an entry: a softmax over the keys up to the query's position. -/
module

public import proofs.«01_k».proof.Proof.R.Terms
public import proofs.«01_k».proof.Proof.V.Head

@[expose] public section

set_option maxRecDepth 16384

noncomputable section

namespace Cert.ReferenceIdeal.Hand

open Cert.ReferenceIdeal.Gen Cert.ReferenceIdeal
open Idealize.ShloMosaic Idealize.ShloMosaic.TcCoe
open scoped BigOperators
open Cert.Softmax
open Cert.KernelIdeal.Hand (c2 qcol kcol hcol row dotOf zOf wOf outOf fold_max ofBits_neg_inf)

/-- The softmax scale is the base-two scale times the logarithm of two. -/
theorem scale_eq : Ideal.ofBits .f32 0x3DB504F3#32 = c2 * ((Real.log 2 : ℝ) : EReal) := by
  have e : Ideal.ofBits .f32 0x3DB504F3#32 = ((11863283 / 134217728 : ℝ) : EReal) := by
    simp [Ideal.ofBits, Ideal.ieee, -EReal.coe_mul]
    norm_num
  have hl : Real.log 2 ≠ 0 := (Real.log_pos (by norm_num)).ne'
  rw [e, c2, ← EReal.coe_mul]
  congr 1
  field_simp

/-- A head's scale: its query scale by its group's key scale by the softmax scale. -/
theorem scaleOf_apply (qs : Vec Ideal S56 .f32) (ks : Vec Ideal S8 .f32) (g : Fin 8) (h : Fin 7) :
    scaleOf qs ks (ix2 g h) = qs (ix1 (hcol g h)) * ks (ix1 g) * (c2 * ((Real.log 2 : ℝ) : EReal)) := by
  rw [← scale_eq]
  pointwise [scaleOf]
  have e : (⟨g.val * 7 + h.val, by omega⟩ : Fin 56) = hcol g h := Fin.ext (by show g.val * 7 + h.val = 7 * g.val + h.val; omega)
  exact congrArg (fun i => (qs (ix1 i) : EReal) * ks (ix1 g) * Ideal.ofBits .f32 0x3DB504F3#32) e

/-- A product of a query with a key is the sum over the 128 columns. -/
theorem dotsOf_apply (x : Vec Ideal S4x8192x7168 .f32) (k : Vec Ideal S4x8192x1024 .f32) (b : Fin 4) (g : Fin 8) (h : Fin 7) (y s : Fin 8192) :
    dotsOf x k (ix5 b g h y s) = ∑ t : Fin 128, (k (ix3 b s (kcol g t)) : EReal) * x (ix3 b y (qcol g h t)) := by
  pointwise [dotsOf]
  refine Finset.sum_congr rfl fun t _ => ?_
  congr 3
  · exact Fin.ext (by show g.val * 128 + t.val = 128 * g.val + t.val; omega)
  · exact Fin.ext (by show g.val * 896 + h.val * 128 + t.val = 896 * g.val + (128 * h.val + t.val); omega)

/-- A score is the product by the head's scale. -/
theorem scoresOf_apply (x : Vec Ideal S4x8192x7168 .f32) (k : Vec Ideal S4x8192x1024 .f32) (qs : Vec Ideal S56 .f32) (ks : Vec Ideal S8 .f32)
    (b : Fin 4) (g : Fin 8) (h : Fin 7) (y s : Fin 8192) :
    scoresOf x k qs ks (ix5 b g h y s) = dotsOf x k (ix5 b g h y s) * scaleOf qs ks (ix2 g h) := by
  pointwise [scoresOf]

/-- A masked score is the score up to the query's position and minus infinity after it. -/
theorem maskedOf_apply (z : Vec Ideal S4x8x7x8192x8192 .f32) (b : Fin 4) (g : Fin 8) (h : Fin 7) (y s : Fin 8192) :
    maskedOf z (ix5 b g h y s) = if s.val ≤ y.val then z (ix5 b g h y s) else (⊥ : EReal) := by
  pointwise [maskedOf, maskOf]
  rw [WordCmp.cmpi_sle_ofNat (by omega) (by omega), WordCmp.select_ofBool, ofBits_neg_inf]
  simp only [decide_eq_true_eq]

/-- The maximum over a row, the keys counted as natural numbers. -/
theorem rowMax_apply (z : Vec Ideal S4x8x7x8192x8192 .f32) (b : Fin 4) (g : Fin 8) (h : Fin 7) (y : Fin 8192) (f : ℕ → EReal)
    (hf : ∀ s : Fin 8192, z (ix5 b g h y s) = f s.val) :
    rowMax z (ix4 b g h y) = (Finset.range 8192).sup f := by
  pointwise [rowMax]
  rw [ofBits_neg_inf]
  simp only [hf]
  change Finset.univ.sup (fun s : Fin 8192 => f s.val) = _
  refine le_antisymm (Finset.sup_le fun s _ => Finset.le_sup (f := f) (Finset.mem_range.mpr s.isLt)) (Finset.sup_le fun n hn => ?_)
  exact Finset.le_sup (f := fun s : Fin 8192 => f s.val) (Finset.mem_univ (⟨n, Finset.mem_range.mp hn⟩ : Fin 8192))

/-- The sum over a row, the keys counted as natural numbers. -/
theorem rowSum_apply (z : Vec Ideal S4x8x7x8192x8192 .f32) (b : Fin 4) (g : Fin 8) (h : Fin 7) (y : Fin 8192) (f : ℕ → EReal)
    (hf : ∀ s : Fin 8192, z (ix5 b g h y s) = f s.val) :
    rowSum z (ix4 b g h y) = ∑ s ∈ Finset.range 8192, f s := by
  pointwise [rowSum]
  simp only [hf]
  exact Fin.sum_univ_eq_sum_range f 8192

/-- An exponential is that of the score below its row's maximum. -/
theorem expOf_apply (z : Vec Ideal S4x8x7x8192x8192 .f32) (b : Fin 4) (g : Fin 8) (h : Fin 7) (y s : Fin 8192) :
    expOf z (ix5 b g h y s) = Ideal.exp (z (ix5 b g h y s) - rowMax z (ix4 b g h y)) := by
  pointwise [expOf, alongRow, asColumn]

/-- A probability is the exponential over its row's sum, zero where that sum is zero. -/
theorem probsOf_apply (e : Vec Ideal S4x8x7x8192x8192 .f32) (b : Fin 4) (g : Fin 8) (h : Fin 7) (y s : Fin 8192) :
    probsOf e (ix5 b g h y s)
      = if (rowSum e (ix4 b g h y) : EReal) = 0 then (0 : EReal) else Ideal.div (e (ix5 b g h y s)) (rowSum e (ix4 b g h y)) := by
  pointwise [probsOf, alongRow, asColumn]

/-- An output entry is the probabilities against a value column, by the value scale. -/
theorem mixOf_apply (v : Vec Ideal S4x8192x1024 .bf16) (p : Vec Ideal S4x8x7x8192x8192 .f32) (vs : Vec Ideal S8 .f32)
    (b : Fin 4) (y : Fin 8192) (g : Fin 8) (h : Fin 7) (d : Fin 128) :
    mixOf v p vs (ix5 b y g h d)
      = (∑ s : Fin 8192, (v (ix3 b s (kcol g d)) : EReal) * p (ix5 b g h y s)) * vs (ix1 g) := by
  pointwise [mixOf]
  have e : (⟨g.val * 128 + d.val, by omega⟩ : Fin 1024) = kcol g d := Fin.ext (by show g.val * 128 + d.val = 128 * g.val + d.val; omega)
  exact congrArg (fun i => (∑ s : Fin 8192, (v (ix3 b s i) : EReal) * p (ix5 b g h y s)) * vs (ix1 g)) e

/-! ## The whole -/

section
variable (x : Vec Ideal S4x8192x7168 .fp8e4m3) (k v : Vec Ideal S4x8192x1024 .fp8e4m3) (qs : Vec Ideal S56 .f32) (ks vs : Vec Ideal S8 .f32)
  (X : Vec Ideal S4x8192x7168 .f32) (K : Vec Ideal S4x8192x1024 .f32) (V : Vec Ideal S4x8192x1024 .bf16)
  (hX : ∀ i, (X i : EReal) = x i) (hK : ∀ i, (K i : EReal) = k i) (hV : ∀ i, (V i : EReal) = v i)
  (b : Fin 4) (g : Fin 8) (h : Fin 7) (y : Fin 8192)

/-- Key number `s` is key `s`. -/
theorem row_val (s : Fin 8192) : row s.val = s := Fin.ext (Nat.mod_eq_of_lt s.isLt)

include hX hK in
/-- A masked score is the kernel's score by the logarithm of two. -/
theorem score_eq (s : Fin 8192) :
    (maskedOf (scoresOf X K qs ks) (ix5 b g h y s) : EReal) = zOf x k qs ks b g h y s.val * ((Real.log 2 : ℝ) : EReal) := by
  rw [maskedOf_apply, scoresOf_apply, dotsOf_apply, scaleOf_apply, zOf]
  split
  · simp only [hX, hK]
    simp only [dotOf, row_val, mul_assoc]
  · exact (EReal.bot_mul_coe_of_pos (Real.log_pos (by norm_num))).symm

include hX hK in
/-- A row's maximum is the kernel's maximum by the logarithm of two. -/
theorem max_eq : (rowMax (maskedOf (scoresOf X K qs ks)) (ix4 b g h y) : EReal)
    = M (zOf x k qs ks b g h y) 8192 * ((Real.log 2 : ℝ) : EReal) := by
  rw [rowMax_apply _ _ _ _ _ (fun n => zOf x k qs ks b g h y n * ((Real.log 2 : ℝ) : EReal)) (score_eq x k qs ks X K hX hK b g h y), sup_mul_log, Softmax.M]

include hX hK in
/-- An exponential is the kernel's base-two exponential. -/
theorem exp_eq (s : Fin 8192) : (expOf (maskedOf (scoresOf X K qs ks)) (ix5 b g h y s) : EReal)
    = Ideal.exp2 (zOf x k qs ks b g h y s.val - M (zOf x k qs ks b g h y) 8192) := by
  rw [expOf_apply, score_eq x k qs ks X K hX hK, max_eq x k qs ks X K hX hK, exp_sub]

include hX hK in
/-- A row's sum is the kernel's sum. -/
theorem total_eq : (rowSum (expOf (maskedOf (scoresOf X K qs ks))) (ix4 b g h y) : EReal)
    = L (zOf x k qs ks b g h y) 8192 := by
  rw [rowSum_apply _ _ _ _ _ (fun n => Ideal.exp2 (zOf x k qs ks b g h y n - M (zOf x k qs ks b g h y) 8192)) (exp_eq x k qs ks X K hX hK b g h y), L]

include hX hK hV in
/-- The mixed values are the kernel's normalised accumulator. -/
theorem mix_eq (d : Fin 128) :
    (mixOf V (probsOf (expOf (maskedOf (scoresOf X K qs ks)))) vs (ix5 b y g h d) : EReal) = outOf x k v qs ks vs b y g h d := by
  rw [mixOf_apply, outOf, quotient, ← Fin.sum_univ_eq_sum_range]
  congr 1
  refine Finset.sum_congr rfl fun s _ => ?_
  rw [hV, probsOf_apply, exp_eq x k qs ks X K hX hK, total_eq x k qs ks X K hX hK, wOf, row_val]

include hX hK hV in
/-- The reference's output array at an entry is the kernel's attention output there. -/
theorem attn_eq (b : Fin 4) (y : Fin 8192) (e : Fin 7168) :
    (attnOf X K V qs ks vs (ix3 b y e) : EReal)
      = outOf x k v qs ks vs b y ⟨e.val / 896, by omega⟩ ⟨e.val % 896 / 128, by omega⟩ ⟨e.val % 128, by omega⟩ := by
  pointwise [attnOf]
  have e7 : (⟨e.val / 128 % 7, by omega⟩ : Fin 7) = ⟨e.val % 896 / 128, by omega⟩ := Fin.ext (by show e.val / 128 % 7 = e.val % 896 / 128; omega)
  rw [← e7]
  exact mix_eq x k v qs ks vs X K V hX hK hV b _ _ y _
end

end Cert.ReferenceIdeal.Hand

end
-- ==== Proof.R.Run.lean ====
/- What the reference's run leaves in its output buffer. -/
module

public import proofs.«01_k».proof.Proof.Gen.ReferenceIdeal.Frame
public import proofs.«01_k».proof.Proof.R.Read
public import Idealize.ShloMosaic.Lib.Pipeline.ValueKit.Geometry
public import Idealize.ShloMosaic.Lib.Pipeline.ValueKit.Tiles

@[expose] public section

set_option maxRecDepth 16384

noncomputable section

namespace Cert.ReferenceIdeal.Hand

open Cert.ReferenceIdeal.Gen Cert.ReferenceIdeal
open Idealize.ShloMosaic Idealize.ShloMosaic.TcCoe
open Idealize.ShloMosaic.Pipeline (Dat Cfg Window BodyObligation cellOf)
open Cert.KernelIdeal.Hand (outOf)

variable (m : (ℓ : Loc nD τ sig) → Buf (Elt Ideal) ℓ) (ρ : Dev nD → PrngReg)

/-- The decoded queries, -/
def decX (c : Dev nD) : Vec Ideal S4x8192x7168 .f32 := fun i => (V m c main_arg0 i : EReal)
/-- keys -/
def decK (c : Dev nD) : Vec Ideal S4x8192x1024 .f32 := fun i => (V m c main_arg1 i : EReal)
/-- and values are the arguments themselves. -/
def decV (c : Dev nD) : Vec Ideal S4x8192x1024 .bf16 := fun i => (V m c main_arg2 i : EReal)

/-- The decoding call leaves the queries as they are. -/
theorem out3_eq (x0 : Vec Ideal S4x8192x7168 .fp8e4m3) (x1 x2 : Vec Ideal S4x8192x1024 .fp8e4m3) :
    out0_3 x0 x1 x2 = fun i => (x0 i : EReal) := by
  funext i
  have e : (View.ld x0 r0_0 : Vec Ideal S4x8192x7168 .fp8e4m3) = x0 := View.ld_unit_lit _ _ (by decide)
  refine (congrFun (View.canon_cons_unit_lit (Val := Elt Ideal) (S := S4x8192x7168) (e := .f32) (off := ![0, 0, 0])
    inb_S4x8192x7168_S4x8192x7168_0_0_0 (k0_pay1 (F := Ideal) (View.ld x0 r0_0)) [] (by decide)) i).trans ?_
  rw [e]
  rfl
theorem idx0 : ∀ t : Fin grid0.N, win0_0.index t = ![0, 0, 0] := by decide +kernel
theorem idx3 : ∀ t : Fin grid0.N, win0_3.index t = ![0, 0, 0] := by decide +kernel
/-- It stages the queries whole. -/
theorem iblk0_eq (c : Dev nD) (t : Fin cfg0.N) : (iblk m c 0 t : Vec Ideal S4x8192x7168 .fp8e4m3) = V m c main_arg0 := by
  funext j
  blk_simp [iblk]
  blk_ext [idx0]
/-- Its array of queries after the call. -/
theorem arr3 (c : Dev nD) : (dats m 0 c).arrAt 3 cfg0.N = decX m c := by
  refine (dats m 0 c).arrAt_eq_of_covers 3 (decX m c) (hcov := by decide +kernel) (fun t hf y => ?_)
  blk_simp [decX]
  rw [after0_3, out3_eq, iblk0_eq]
  blk_ext [idx3]

/-- The decoding call leaves the keys as they are. -/
theorem out4_eq (x0 : Vec Ideal S4x8192x7168 .fp8e4m3) (x1 x2 : Vec Ideal S4x8192x1024 .fp8e4m3) :
    out0_4 x0 x1 x2 = fun i => (x1 i : EReal) := by
  funext i
  have e : (View.ld x1 r0_1 : Vec Ideal S4x8192x1024 .fp8e4m3) = x1 := View.ld_unit_lit _ _ (by decide)
  refine (congrFun (View.canon_cons_unit_lit (Val := Elt Ideal) (S := S4x8192x1024) (e := .f32) (off := ![0, 0, 0])
    inb_S4x8192x1024_S4x8192x1024_0_0_0 (k0_pay2 (F := Ideal) (View.ld x1 r0_1)) [] (by decide)) i).trans ?_
  rw [e]
  rfl
theorem idx1 : ∀ t : Fin grid0.N, win0_1.index t = ![0, 0, 0] := by decide +kernel
theorem idx4 : ∀ t : Fin grid0.N, win0_4.index t = ![0, 0, 0] := by decide +kernel
/-- It stages the keys whole. -/
theorem iblk1_eq (c : Dev nD) (t : Fin cfg0.N) : (iblk m c 1 t : Vec Ideal S4x8192x1024 .fp8e4m3) = V m c main_arg1 := by
  funext j
  blk_simp [iblk]
  blk_ext [idx1]
/-- Its array of keys after the call. -/
theorem arr4 (c : Dev nD) : (dats m 0 c).arrAt 4 cfg0.N = decK m c := by
  refine (dats m 0 c).arrAt_eq_of_covers 4 (decK m c) (hcov := by decide +kernel) (fun t hf y => ?_)
  blk_simp [decK]
  rw [after0_4, out4_eq, iblk1_eq]
  blk_ext [idx4]

/-- The decoding call leaves the values as they are. -/
theorem out5_eq (x0 : Vec Ideal S4x8192x7168 .fp8e4m3) (x1 x2 : Vec Ideal S4x8192x1024 .fp8e4m3) :
    out0_5 x0 x1 x2 = fun i => (x2 i : EReal) := by
  funext i
  have e : (View.ld x2 r0_1 : Vec Ideal S4x8192x1024 .fp8e4m3) = x2 := View.ld_unit_lit _ _ (by decide)
  refine (congrFun (View.canon_cons_unit_lit (Val := Elt Ideal) (S := S4x8192x1024) (e := .bf16) (off := ![0, 0, 0])
    inb_S4x8192x1024_S4x8192x1024_0_0_0 (k0_pay3 (F := Ideal) (View.ld x2 r0_1)) [] (by decide)) i).trans ?_
  rw [e]
  rfl
theorem idx2 : ∀ t : Fin grid0.N, win0_2.index t = ![0, 0, 0] := by decide +kernel
theorem idx5 : ∀ t : Fin grid0.N, win0_5.index t = ![0, 0, 0] := by decide +kernel
/-- It stages the values whole. -/
theorem iblk2_eq (c : Dev nD) (t : Fin cfg0.N) : (iblk m c 2 t : Vec Ideal S4x8192x1024 .fp8e4m3) = V m c main_arg2 := by
  funext j
  blk_simp [iblk]
  blk_ext [idx2]
/-- Its array of values after the call. -/
theorem arr5 (c : Dev nD) : (dats m 0 c).arrAt 5 cfg0.N = decV m c := by
  refine (dats m 0 c).arrAt_eq_of_covers 5 (decV m c) (hcov := by decide +kernel) (fun t hf y => ?_)
  blk_simp [decV]
  rw [after0_5, out5_eq, iblk2_eq]
  blk_ext [idx5]

/-- The array of attention outputs. -/
def refArr (c : Dev nD) : Vec Ideal S4x8192x7168 .bf16 :=
  attnOf (decX m c) (decK m c) (decV m c) (V m c main_arg3) (V m c main_arg4) (V m c main_arg5)

/-- What the host operations after the decoding leave in the output buffer. -/
theorem tail_eq (c : Dev nD) :
    Pipeline.afterTail₀ cfgs (dats m) 0 (V0 m) [hostOps1, hostOps1_1, hostOps1_2, hostOps1_3, hostOps1_4] c main_v41 = refArr m c := by
  unfold Pipeline.afterTail₀
  rw [tail_v41]
  have h3 := (Pipeline.withArrays_arr (τ := τ) spec0 (by decide) c (V0 m c) (fun w => (dats m 0 c).arrAt w cfg0.N) 3).trans (arr3 m c)
  have h4 := (Pipeline.withArrays_arr (τ := τ) spec0 (by decide) c (V0 m c) (fun w => (dats m 0 c).arrAt w cfg0.N) 4).trans (arr4 m c)
  have h5 := (Pipeline.withArrays_arr (τ := τ) spec0 (by decide) c (V0 m c) (fun w => (dats m 0 c).arrAt w cfg0.N) 5).trans (arr5 m c)
  have ha3 := Pipeline.withArrays_of_ne (τ := τ) spec0 c (V0 m c) (fun w => (dats m 0 c).arrAt w cfg0.N) main_arg3 (by exact (by decide : ∀ w, Pipeline.arrRef spec0 w ≠ main_arg3))
  have ha4 := Pipeline.withArrays_of_ne (τ := τ) spec0 c (V0 m c) (fun w => (dats m 0 c).arrAt w cfg0.N) main_arg4 (by exact (by decide : ∀ w, Pipeline.arrRef spec0 w ≠ main_arg4))
  have ha5 := Pipeline.withArrays_of_ne (τ := τ) spec0 c (V0 m c) (fun w => (dats m 0 c).arrAt w cfg0.N) main_arg5 (by exact (by decide : ∀ w, Pipeline.arrRef spec0 w ≠ main_arg5))
  unfold refArr
  congr 1

/-- The run leaves the attention outputs in the output buffer. -/
theorem run_value : θ_run defs (onTc (τ := τ) (main (F := Ideal))) ⟨m, fun _ => 0, ρ⟩ (fun r => ∀ c : Dev nD,
    r.2.mem ((c.tc : Thread nD τ).loc main_v41) = refArr m c) :=
  (θ_run defs _ _).mono (fun _ h c => ((h c).2 main_v41 (Pipeline.mem_restRefs_of main_v41 (by decide) (by decide))).trans (tail_eq m c))
    (run_main m ρ)

end Cert.ReferenceIdeal.Hand

end
-- ==== Proof.V.Pair.lean ====
/- The two idealised programs leave the same array. -/
module

public import proofs.«01_k».proof.Defs
public import proofs.«01_k».proof.Proof.V.Array
public import proofs.«01_k».proof.Proof.R.Run

@[expose] public section

set_option maxRecDepth 16384

noncomputable section

namespace Cert.Proof

open Idealize.ShloMosaic Idealize.ShloMosaic.TcCoe
open Idealize.SL Idealize.SL.RA Idealize.SL.BI Idealize.SL.Sem

/-- The idealised kernel's run leaves the attention outputs in its output buffer. -/
theorem kernel_value (m : (ℓ : Loc KernelIdeal.nD KernelIdeal.τ KernelIdeal.sig) → Buf (Elt Ideal) ℓ) (ρ : Dev KernelIdeal.nD → PrngReg) :
    θ_run KernelIdeal.defs (onTc (τ := KernelIdeal.τ) (KernelIdeal.main (F := Ideal))) ⟨m, fun _ => 0, ρ⟩ (fun r => ∀ c : Dev KernelIdeal.nD,
      r.2.mem ((c.tc : Thread KernelIdeal.nD KernelIdeal.τ).loc KernelIdeal.main_v0) = KernelIdeal.Hand.outArr m c) :=
  (θ_run KernelIdeal.defs _ _).mono (fun _ h c => ((h c).1 6).trans (KernelIdeal.Hand.arr_eq m c)) (KernelIdeal.Hand.run_main m ρ)

/-- Two output arrays equal at every entry are equal. -/
theorem arr_ext (f g : Vec Ideal KernelIdeal.S4x8192x7168 .bf16) (h : ∀ (b : Fin 4) (y : Fin 8192) (e : Fin 7168), (f (ix3 b y e) : EReal) = g (ix3 b y e)) : f = g := by
  funext i
  have e : i = ix3 ⟨(i 0).val, (i 0).isLt⟩ ⟨(i 1).val, (i 1).isLt⟩ ⟨(i 2).val, (i 2).isLt⟩ := by
    funext a
    fin_cases a <;> rfl
  rw [e]
  exact h _ _ _

/-- From equal arguments the two output arrays are equal. -/
theorem arr_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5)) :
    ReferenceIdeal.Hand.refArr m' c = KernelIdeal.Hand.outArr m c := by
  have g0 : ReferenceIdeal.Gen.V m' c ReferenceIdeal.main_arg0 = KernelIdeal.Gen.V m c KernelIdeal.main_arg0 := h0
  have g1 : ReferenceIdeal.Gen.V m' c ReferenceIdeal.main_arg1 = KernelIdeal.Gen.V m c KernelIdeal.main_arg1 := h1
  have g2 : ReferenceIdeal.Gen.V m' c ReferenceIdeal.main_arg2 = KernelIdeal.Gen.V m c KernelIdeal.main_arg2 := h2
  have g3 : ReferenceIdeal.Gen.V m' c ReferenceIdeal.main_arg3 = KernelIdeal.Gen.V m c KernelIdeal.main_arg3 := h3
  have g4 : ReferenceIdeal.Gen.V m' c ReferenceIdeal.main_arg4 = KernelIdeal.Gen.V m c KernelIdeal.main_arg4 := h4
  have g5 : ReferenceIdeal.Gen.V m' c ReferenceIdeal.main_arg5 = KernelIdeal.Gen.V m c KernelIdeal.main_arg5 := h5
  have key : ∀ (b : Fin 4) (y : Fin 8192) (e : Fin 7168), (ReferenceIdeal.Hand.refArr m' c (ix3 b y e) : EReal) = KernelIdeal.Hand.outArr m c (ix3 b y e) := by
    intro b y e
    unfold ReferenceIdeal.Hand.refArr KernelIdeal.Hand.outArr
    rw [← g0, ← g1, ← g2, ← g3, ← g4, ← g5]
    exact ReferenceIdeal.Hand.attn_eq (ReferenceIdeal.Gen.V m' c ReferenceIdeal.main_arg0) (ReferenceIdeal.Gen.V m' c ReferenceIdeal.main_arg1)
      (ReferenceIdeal.Gen.V m' c ReferenceIdeal.main_arg2) (ReferenceIdeal.Gen.V m' c ReferenceIdeal.main_arg3)
      (ReferenceIdeal.Gen.V m' c ReferenceIdeal.main_arg4) (ReferenceIdeal.Gen.V m' c ReferenceIdeal.main_arg5)
      (ReferenceIdeal.Hand.decX m' c) (ReferenceIdeal.Hand.decK m' c) (ReferenceIdeal.Hand.decV m' c)
      (fun _ => rfl) (fun _ => rfl) (fun _ => rfl) b y e
  exact arr_ext _ _ key

/-- Over the extended reals the kernel and the reference compute the same attention output. -/
theorem algebraic : algebraic_KernelIdeal_ReferenceIdeal := by
  intro m g m' g' hpre hagree
  refine ⟨fun c => KernelIdeal.Hand.outArr m c, ?_, ?_⟩
  · exact (θ_run KernelIdeal.defs _ _).mono (fun _ h c => ⟨h.1 c, h.2 c⟩) (θ_run_and (kernel_value m g) (KernelIdeal.Hand.unchanged m g))
  · refine (θ_run ReferenceIdeal.defs _ _).mono (fun _ h c => ⟨(h.1 c).trans ?_, h.2 c⟩)
      (θ_run_and (ReferenceIdeal.Hand.run_value m' g') (ReferenceIdeal.Gen.unchanged m' g'))
    obtain ⟨h0, h1, h2, h3, h4, h5⟩ := hagree c
    exact arr_agree m m' c h0 h1 h2 h3 h4 h5

end Cert.Proof

end
-- ==== Proof.lean ====
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Launch
public import proofs.«01_k».proof.Proof.Gen.ReferenceIdeal.Frame
public import proofs.«01_k».proof.Proof.F.Frame
public import proofs.«01_k».proof.Proof.K.Frame
public import proofs.«01_k».proof.Proof.V.Pair
public import Idealize.ShloMosaic.Adequacy
public import Idealize.ShloMosaic.Init

@[expose] public section

noncomputable section

namespace Cert.Proof

open Idealize.ShloMosaic Idealize.ShloMosaic.TcCoe
open Idealize.SL Idealize.SL.RA Idealize.SL.BI Idealize.SL.Sem

/-- Each named constant of the kernel reads as the value its name declares. -/
theorem preserves : preserves_Kernel_KernelIdeal :=
  ⟨IdealRules.named_const.statement Cert.KernelIdeal.κ "mask" .f32 0xF149F2CA#32 ⊥ rfl,
    IdealRules.named_const.statement Cert.KernelIdeal.κ "scale2" .f32 0x3E0293EE#32 (((11863283 / 134217728) * (Real.log 2)⁻¹ : ℝ) : EReal) rfl⟩

/-- Everything the certificate claims. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Gen.frame m ρ, preserves, algebraic⟩

end Cert.Proof

end
